-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_graphs [hPre_in_graphs : Cert.Pre_in_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_in_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_graphs [hPre_in_graphs : Cert.Pre_in_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_graphs [hKernelIdeal : Cert.KernelIdeal.Facts] [hPre_in_graphs : Cert.Pre_in_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_graphs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_graphs [hReferenceIdeal : Cert.ReferenceIdeal.Facts] [hPre_in_graphs : Cert.Pre_in_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_graphs [hKernelIdeal : Cert.KernelIdeal.Facts] [hReferenceIdeal : Cert.ReferenceIdeal.Facts] [hPre_in_graphs : Cert.Pre_in_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_graphs : Cert.Pre_in_graphs.Facts),
    quiescent_Kernel (hKernel := hKernel)
    ∧ quiescent_KernelIdeal (hKernelIdeal := hKernelIdeal)
    ∧ quiescent_KernelIdeal_pre_in_graphs (hKernelIdeal := hKernelIdeal) (hPre_in_graphs := hPre_in_graphs)
    ∧ quiescent_ReferenceIdeal (hReferenceIdeal := hReferenceIdeal)
    ∧ quiescent_ReferenceIdeal_pre_in_graphs (hReferenceIdeal := hReferenceIdeal) (hPre_in_graphs := hPre_in_graphs)
    ∧ preserves_Kernel_KernelIdeal
    ∧ algebraic_KernelIdeal_ReferenceIdeal_pre_in_graphs (hKernelIdeal := hKernelIdeal) (hReferenceIdeal := hReferenceIdeal) (hPre_in_graphs := hPre_in_graphs)
-- ==== Pre_in_graphs.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S50000 : Shape := ⟨1, ![50000]⟩
abbrev S64 : Shape := ⟨1, ![64]⟩
abbrev S144x64 : Shape := ⟨2, ![144, 64]⟩
abbrev S256x64 : Shape := ⟨2, ![256, 64]⟩
abbrev S64x1 : Shape := ⟨2, ![64, 1]⟩
abbrev S1 : Shape := ⟨1, ![1]⟩
abbrev S_ : Shape := ⟨0, ![]⟩

class Facts : Prop where
  bcast_S_S50000 : S_.BroadcastsInDim S50000 (![] : Fin 0 → Fin S50000.rank)

variable [Facts]

def fn {F : FTy → Type} [FloatOps F] (main_arg0 : FVec F S50000x64 .f32) (main_arg1 : IVec S2x800000 32) (main_arg2 : FVec F S800000x16 .f32) (main_arg3 : FVec F S64x64 .f32) (main_arg4 : FVec F S64x64 .f32) (main_arg5 : IVec S50000 32) (main_arg6 : FVec F S64x64 .f32) (main_arg7 : FVec F S64 .f32) (main_arg8 : FVec F S144x64 .f32) (main_arg9 : FVec F S64 .f32) (main_arg10 : FVec F S256x64 .f32) (main_arg11 : FVec F S64 .f32) (main_arg12 : FVec F S144x64 .f32) (main_arg13 : FVec F S64 .f32) (main_arg14 : FVec F S256x64 .f32) (main_arg15 : FVec F S64 .f32) (main_arg16 : FVec F S64x64 .f32) (main_arg17 : FVec F S64 .f32) (main_arg18 : FVec F S64x1 .f32) (main_arg19 : FVec F S1 .f32) : IVec S50000 1 :=
  let main_c : IVec S_ 32 := constantI S_ 32 0#32
  let main_v0 : IVec S50000 32 := broadcastInDim S50000 ![] bcast_S_S50000 main_c
  let main_v1 : IVec S50000 1 := cmpi .sge main_arg5 main_v0
  let main_c_0 : IVec S_ 32 := constantI S_ 32 64#32
  let main_v2 : IVec S50000 32 := broadcastInDim S50000 ![] bcast_S_S50000 main_c_0
  let main_v3 : IVec S50000 1 := cmpi .slt main_arg5 main_v2
  let main_v4 : IVec S50000 1 := andi main_v1 main_v3
  main_v4
-- ==== Kernel.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S50000 : Shape := ⟨1, ![50000]⟩
abbrev S64 : Shape := ⟨1, ![64]⟩
abbrev S144x64 : Shape := ⟨2, ![144, 64]⟩
abbrev S256x64 : Shape := ⟨2, ![256, 64]⟩
abbrev S64x1 : Shape := ⟨2, ![64, 1]⟩
abbrev S1 : Shape := ⟨1, ![1]⟩
abbrev S64x128 : Shape := ⟨2, ![64, 128]⟩
abbrev S_ : Shape := ⟨0, ![]⟩
abbrev S50000x1 : Shape := ⟨2, ![50000, 1]⟩
abbrev S1x1 : Shape := ⟨2, ![1, 1]⟩
abbrev S50000x128 : Shape := ⟨2, ![50000, 128]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S800000x144 : Shape := ⟨2, ![800000, 144]⟩
abbrev S50000x256 : Shape := ⟨2, ![50000, 256]⟩
abbrev S50048x64 : Shape := ⟨2, ![50048, 64]⟩
abbrev S50048 : Shape := ⟨1, ![50048]⟩
abbrev S391x128 : Shape := ⟨2, ![391, 128]⟩
abbrev S50048x1 : Shape := ⟨2, ![50048, 1]⟩
abbrev S1x391x128 : Shape := ⟨3, ![1, 391, 128]⟩
abbrev S1x1x1 : Shape := ⟨3, ![1, 1, 1]⟩

abbrev nBuf : Space → Nat
  | .hbm => 201
  | .vmem => 7
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S64x64, .f32⟩
  | 4 => ⟨S64x64, .f32⟩
  | 5 => ⟨S50000, .i32⟩
  | 6 => ⟨S64x64, .f32⟩
  | 7 => ⟨S64, .f32⟩
  | 8 => ⟨S144x64, .f32⟩
  | 9 => ⟨S64, .f32⟩
  | 10 => ⟨S256x64, .f32⟩
  | 11 => ⟨S64, .f32⟩
  | 12 => ⟨S144x64, .f32⟩
  | 13 => ⟨S64, .f32⟩
  | 14 => ⟨S256x64, .f32⟩
  | 15 => ⟨S64, .f32⟩
  | 16 => ⟨S64x64, .f32⟩
  | 17 => ⟨S64, .f32⟩
  | 18 => ⟨S64x1, .f32⟩
  | 19 => ⟨S1, .f32⟩
  | 20 => ⟨S64x128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S1, .i32⟩
  | 30 => ⟨S_, .i32⟩
  | 31 => ⟨S50000x1, .i32⟩
  | 32 => ⟨S50000x1, .i1⟩
  | 33 => ⟨S1x1, .i32⟩
  | 34 => ⟨S50000x1, .i32⟩
  | 35 => ⟨S50000x1, .i1⟩
  | 36 => ⟨S50000x1, .i1⟩
  | 37 => ⟨S_, .i1⟩
  | 38 => ⟨S50000, .i1⟩
  | 39 => ⟨S50000x128, .f32⟩
  | 40 => ⟨S50000x128, .i1⟩
  | 41 => ⟨S_, .f32⟩
  | 42 => ⟨S50000x128, .f32⟩
  | 43 => ⟨S50000x128, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x64, .f32⟩
  | 74 => ⟨S800000x64, .i1⟩
  | 75 => ⟨S_, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S800000x144, .f32⟩
  | 102 => ⟨S800000x64, .f32⟩
  | 103 => ⟨S1x64, .f32⟩
  | 104 => ⟨S800000x64, .f32⟩
  | 105 => ⟨S800000x64, .f32⟩
  | 106 => ⟨S_, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x256, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S1, .i32⟩
  | 3 => ⟨S_, .i32⟩
  | 4 => ⟨S800000x1, .i32⟩
  | 5 => ⟨S800000x1, .i1⟩
  | 6 => ⟨S1x1, .i32⟩
  | 7 => ⟨S800000x1, .i32⟩
  | 8 => ⟨S800000x1, .i1⟩
  | 9 => ⟨S800000x1, .i1⟩
  | 10 => ⟨S_, .i1⟩
  | 11 => ⟨S800000, .i1⟩
  | 12 => ⟨S800000x64, .f32⟩
  | 13 => ⟨S800000x64, .i1⟩
  | 14 => ⟨S_, .f32⟩
  | 15 => ⟨S800000x64, .f32⟩
  | 16 => ⟨S800000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S1, .i32⟩
  | 26 => ⟨S_, .i32⟩
  | 27 => ⟨S800000x1, .i32⟩
  | 28 => ⟨S800000x1, .i1⟩
  | 29 => ⟨S1x1, .i32⟩
  | 30 => ⟨S800000x1, .i32⟩
  | 31 => ⟨S800000x1, .i1⟩
  | 32 => ⟨S800000x1, .i1⟩
  | 33 => ⟨S_, .i1⟩
  | 34 => ⟨S800000, .i1⟩
  | 35 => ⟨S800000x64, .f32⟩
  | 36 => ⟨S800000x64, .i1⟩
  | 37 => ⟨S_, .f32⟩
  | 38 => ⟨S800000x64, .f32⟩
  | 39 => ⟨S800000x64, .f32⟩
  | 40 => ⟨S800000x144, .f32⟩
  | 41 => ⟨S800000x64, .f32⟩
  | 42 => ⟨S1x64, .f32⟩
  | 43 => ⟨S800000x64, .f32⟩
  | 44 => ⟨S800000x64, .f32⟩
  | 45 => ⟨S_, .f32⟩
  | 46 => ⟨S800000x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S50000x256, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S_, .i32⟩
  | 62 => ⟨S_, .f32⟩
  | 63 => ⟨S50048x64, .f32⟩
  | 64 => ⟨S_, .i32⟩
  | 65 => ⟨S_, .i32⟩
  | 66 => ⟨S50048, .i32⟩
  | 67 => ⟨S391x128, .i32⟩
  | 68 => ⟨S1x64, .f32⟩
  | 69 => ⟨S1x1, .f32⟩
  | 70 => ⟨S391x128, .f32⟩
  | 71 => ⟨S50048, .f32⟩
  | 72 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S50048x64, .f32⟩
  | .local _ .vmem, ⟨1, _⟩ => ⟨S64x64, .f32⟩
  | .local _ .vmem, ⟨2, _⟩ => ⟨S1x64, .f32⟩
  | .local _ .vmem, ⟨3, _⟩ => ⟨S64x1, .f32⟩
  | .local _ .vmem, ⟨4, _⟩ => ⟨S1x1, .f32⟩
  | .local _ .vmem, ⟨5, _⟩ => ⟨S391x128, .i32⟩
  | .local _ .vmem, ⟨6, _⟩ => ⟨S391x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_call1_cst : Ref sig .tc := ⟨.hbm, 48, rfl⟩
abbrev main_call1_v0 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v11 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_call4_cst : Ref sig .tc := ⟨.hbm, 106, rfl⟩
abbrev main_call4_v0 : Ref sig .tc := ⟨.hbm, 107, rfl⟩
abbrev main_v18 : Ref sig .tc := ⟨.hbm, 108, rfl⟩
abbrev main_cst : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_call5_cst : Ref sig .tc := ⟨.hbm, 119, rfl⟩
abbrev main_call5_v0 : Ref sig .tc := ⟨.hbm, 120, rfl⟩
abbrev main_v28 : Ref sig .tc := ⟨.hbm, 121, rfl⟩
abbrev main_call6_c : Ref sig .tc := ⟨.hbm, 122, rfl⟩
abbrev main_call6_v0 : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_v5 : Ref sig .tc := ⟨.hbm, 129, rfl⟩
abbrev main_call6_c_1 : Ref sig .tc := ⟨.hbm, 130, rfl⟩
abbrev main_call6_c_2 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_call6_c_3 : Ref sig .tc := ⟨.hbm, 138, rfl⟩
abbrev main_call6_v12 : Ref sig .tc := ⟨.hbm, 139, rfl⟩
abbrev main_call6_v13 : Ref sig .tc := ⟨.hbm, 140, rfl⟩
abbrev main_call6_v14 : Ref sig .tc := ⟨.hbm, 141, rfl⟩
abbrev main_call6_cst : Ref sig .tc := ⟨.hbm, 142, rfl⟩
abbrev main_call6_v15 : Ref sig .tc := ⟨.hbm, 143, rfl⟩
abbrev main_v29 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_c_1 : Ref sig .tc := ⟨.hbm, 153, rfl⟩
abbrev main_call7_c_2 : Ref sig .tc := ⟨.hbm, 154, rfl⟩
abbrev main_call7_v6 : Ref sig .tc := ⟨.hbm, 155, rfl⟩
abbrev main_call7_v7 : Ref sig .tc := ⟨.hbm, 156, rfl⟩
abbrev main_call7_v8 : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_c_3 : Ref sig .tc := ⟨.hbm, 161, rfl⟩
abbrev main_call7_v12 : Ref sig .tc := ⟨.hbm, 162, rfl⟩
abbrev main_call7_v13 : Ref sig .tc := ⟨.hbm, 163, rfl⟩
abbrev main_call7_v14 : Ref sig .tc := ⟨.hbm, 164, rfl⟩
abbrev main_call7_cst : Ref sig .tc := ⟨.hbm, 165, rfl⟩
abbrev main_call7_v15 : Ref sig .tc := ⟨.hbm, 166, rfl⟩
abbrev main_v30 : Ref sig .tc := ⟨.hbm, 167, rfl⟩
abbrev main_v31 : Ref sig .tc := ⟨.hbm, 168, rfl⟩
abbrev main_v32 : Ref sig .tc := ⟨.hbm, 169, rfl⟩
abbrev main_v33 : Ref sig .tc := ⟨.hbm, 170, rfl⟩
abbrev main_v34 : Ref sig .tc := ⟨.hbm, 171, rfl⟩
abbrev main_v35 : Ref sig .tc := ⟨.hbm, 172, rfl⟩
abbrev main_call8_cst : Ref sig .tc := ⟨.hbm, 173, rfl⟩
abbrev main_call8_v0 : Ref sig .tc := ⟨.hbm, 174, rfl⟩
abbrev main_v36 : Ref sig .tc := ⟨.hbm, 175, rfl⟩
abbrev main_cst_0 : Ref sig .tc := ⟨.hbm, 176, rfl⟩
abbrev main_v37 : Ref sig .tc := ⟨.hbm, 177, rfl⟩
abbrev main_v38 : Ref sig .tc := ⟨.hbm, 178, rfl⟩
abbrev main_v39 : Ref sig .tc := ⟨.hbm, 179, rfl⟩
abbrev main_v40 : Ref sig .tc := ⟨.hbm, 180, rfl⟩
abbrev main_v41 : Ref sig .tc := ⟨.hbm, 181, rfl⟩
abbrev main_v42 : Ref sig .tc := ⟨.hbm, 182, rfl⟩
abbrev main_v43 : Ref sig .tc := ⟨.hbm, 183, rfl⟩
abbrev main_v44 : Ref sig .tc := ⟨.hbm, 184, rfl⟩
abbrev main_v45 : Ref sig .tc := ⟨.hbm, 185, rfl⟩
abbrev main_call9_cst : Ref sig .tc := ⟨.hbm, 186, rfl⟩
abbrev main_call9_v0 : Ref sig .tc := ⟨.hbm, 187, rfl⟩
abbrev main_v46 : Ref sig .tc := ⟨.hbm, 188, rfl⟩
abbrev main_c : Ref sig .tc := ⟨.hbm, 189, rfl⟩
abbrev main_call10_v0 : Ref sig .tc := ⟨.hbm, 190, rfl⟩
abbrev main_v47 : Ref sig .tc := ⟨.hbm, 191, rfl⟩
abbrev main_c_1 : Ref sig .tc := ⟨.hbm, 192, rfl⟩
abbrev main_call11_v0 : Ref sig .tc := ⟨.hbm, 193, rfl⟩
abbrev main_v48 : Ref sig .tc := ⟨.hbm, 194, rfl⟩
abbrev main_v49 : Ref sig .tc := ⟨.hbm, 195, rfl⟩
abbrev main_v50 : Ref sig .tc := ⟨.hbm, 196, rfl⟩
abbrev main_v51 : Ref sig .tc := ⟨.hbm, 197, rfl⟩
abbrev main_v52 : Ref sig .tc := ⟨.hbm, 198, rfl⟩
abbrev main_v53 : Ref sig .tc := ⟨.hbm, 199, rfl⟩
abbrev main_v54 : Ref sig .tc := ⟨.hbm, 200, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S50048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S391x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S391x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S64x64 : Shape := ⟨2, ![64, 64]⟩
abbrev S50000 : Shape := ⟨1, ![50000]⟩
abbrev S64 : Shape := ⟨1, ![64]⟩
abbrev S144x64 : Shape := ⟨2, ![144, 64]⟩
abbrev S256x64 : Shape := ⟨2, ![256, 64]⟩
abbrev S64x1 : Shape := ⟨2, ![64, 1]⟩
abbrev S1 : Shape := ⟨1, ![1]⟩
abbrev S64x128 : Shape := ⟨2, ![64, 128]⟩
abbrev S_ : Shape := ⟨0, ![]⟩
abbrev S50000x1 : Shape := ⟨2, ![50000, 1]⟩
abbrev S1x1 : Shape := ⟨2, ![1, 1]⟩
abbrev S50000x128 : Shape := ⟨2, ![50000, 128]⟩
abbrev S1x64 : Shape := ⟨2, ![1, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S800000x144 : Shape := ⟨2, ![800000, 144]⟩
abbrev S50000x256 : Shape := ⟨2, ![50000, 256]⟩

abbrev nBuf : Space → Nat
  | .hbm => 266
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S64x64, .f32⟩
  | 4 => ⟨S64x64, .f32⟩
  | 5 => ⟨S50000, .i32⟩
  | 6 => ⟨S64x64, .f32⟩
  | 7 => ⟨S64, .f32⟩
  | 8 => ⟨S144x64, .f32⟩
  | 9 => ⟨S64, .f32⟩
  | 10 => ⟨S256x64, .f32⟩
  | 11 => ⟨S64, .f32⟩
  | 12 => ⟨S144x64, .f32⟩
  | 13 => ⟨S64, .f32⟩
  | 14 => ⟨S256x64, .f32⟩
  | 15 => ⟨S64, .f32⟩
  | 16 => ⟨S64x64, .f32⟩
  | 17 => ⟨S64, .f32⟩
  | 18 => ⟨S64x1, .f32⟩
  | 19 => ⟨S1, .f32⟩
  | 20 => ⟨S64x128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S1, .i32⟩
  | 30 => ⟨S_, .i32⟩
  | 31 => ⟨S50000x1, .i32⟩
  | 32 => ⟨S50000x1, .i1⟩
  | 33 => ⟨S1x1, .i32⟩
  | 34 => ⟨S50000x1, .i32⟩
  | 35 => ⟨S50000x1, .i1⟩
  | 36 => ⟨S50000x1, .i1⟩
  | 37 => ⟨S_, .i1⟩
  | 38 => ⟨S50000, .i1⟩
  | 39 => ⟨S50000x128, .f32⟩
  | 40 => ⟨S50000x128, .i1⟩
  | 41 => ⟨S_, .f32⟩
  | 42 => ⟨S50000x128, .f32⟩
  | 43 => ⟨S50000x128, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x64, .f32⟩
  | 74 => ⟨S800000x64, .i1⟩
  | 75 => ⟨S_, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S800000x144, .f32⟩
  | 102 => ⟨S800000x64, .f32⟩
  | 103 => ⟨S1x64, .f32⟩
  | 104 => ⟨S800000x64, .f32⟩
  | 105 => ⟨S800000x64, .f32⟩
  | 106 => ⟨S_, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x256, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_1 (i : Nat) : BufTy := match i % 128 with
  | 0 => ⟨S800000, .i32⟩
  | 1 => ⟨S800000x1, .i32⟩
  | 2 => ⟨S1, .i32⟩
  | 3 => ⟨S_, .i32⟩
  | 4 => ⟨S800000x1, .i32⟩
  | 5 => ⟨S800000x1, .i1⟩
  | 6 => ⟨S1x1, .i32⟩
  | 7 => ⟨S800000x1, .i32⟩
  | 8 => ⟨S800000x1, .i1⟩
  | 9 => ⟨S800000x1, .i1⟩
  | 10 => ⟨S_, .i1⟩
  | 11 => ⟨S800000, .i1⟩
  | 12 => ⟨S800000x64, .f32⟩
  | 13 => ⟨S800000x64, .i1⟩
  | 14 => ⟨S_, .f32⟩
  | 15 => ⟨S800000x64, .f32⟩
  | 16 => ⟨S800000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S1, .i32⟩
  | 26 => ⟨S_, .i32⟩
  | 27 => ⟨S800000x1, .i32⟩
  | 28 => ⟨S800000x1, .i1⟩
  | 29 => ⟨S1x1, .i32⟩
  | 30 => ⟨S800000x1, .i32⟩
  | 31 => ⟨S800000x1, .i1⟩
  | 32 => ⟨S800000x1, .i1⟩
  | 33 => ⟨S_, .i1⟩
  | 34 => ⟨S800000, .i1⟩
  | 35 => ⟨S800000x64, .f32⟩
  | 36 => ⟨S800000x64, .i1⟩
  | 37 => ⟨S_, .f32⟩
  | 38 => ⟨S800000x64, .f32⟩
  | 39 => ⟨S800000x64, .f32⟩
  | 40 => ⟨S800000x144, .f32⟩
  | 41 => ⟨S800000x64, .f32⟩
  | 42 => ⟨S1x64, .f32⟩
  | 43 => ⟨S800000x64, .f32⟩
  | 44 => ⟨S800000x64, .f32⟩
  | 45 => ⟨S_, .f32⟩
  | 46 => ⟨S800000x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S50000x256, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x1, .f32⟩
  | 69 => ⟨S1x1, .f32⟩
  | 70 => ⟨S50000x1, .f32⟩
  | 71 => ⟨S50000x1, .f32⟩
  | 72 => ⟨S50000, .f32⟩
  | 73 => ⟨S50000x1, .i32⟩
  | 74 => ⟨S64, .i32⟩
  | 75 => ⟨S1x64, .i32⟩
  | 76 => ⟨S50000x64, .i32⟩
  | 77 => ⟨S50000x64, .i32⟩
  | 78 => ⟨S50000x64, .i1⟩
  | 79 => ⟨S50000x1, .f32⟩
  | 80 => ⟨S_, .f32⟩
  | 81 => ⟨S_, .f32⟩
  | 82 => ⟨S50000x64, .f32⟩
  | 83 => ⟨S50000x64, .f32⟩
  | 84 => ⟨S50000x64, .f32⟩
  | 85 => ⟨S_, .f32⟩
  | 86 => ⟨S64, .f32⟩
  | 87 => ⟨S_, .i32⟩
  | 88 => ⟨S50000, .i32⟩
  | 89 => ⟨S50000, .i1⟩
  | 90 => ⟨S_, .i32⟩
  | 91 => ⟨S50000, .i32⟩
  | 92 => ⟨S50000, .i32⟩
  | 93 => ⟨S50000, .i32⟩
  | 94 => ⟨S50000x1, .i32⟩
  | 95 => ⟨S1, .i32⟩
  | 96 => ⟨S_, .i32⟩
  | 97 => ⟨S50000x1, .i32⟩
  | 98 => ⟨S50000x1, .i1⟩
  | 99 => ⟨S1x1, .i32⟩
  | 100 => ⟨S50000x1, .i32⟩
  | 101 => ⟨S50000x1, .i1⟩
  | 102 => ⟨S50000x1, .i1⟩
  | 103 => ⟨S_, .i1⟩
  | 104 => ⟨S50000, .i1⟩
  | 105 => ⟨S50000, .f32⟩
  | 106 => ⟨S_, .f32⟩
  | 107 => ⟨S50000, .f32⟩
  | 108 => ⟨S50000, .f32⟩
  | 109 => ⟨S50000, .f32⟩
  | 110 => ⟨S50000, .f32⟩
  | 111 => ⟨S_, .f32⟩
  | 112 => ⟨S64, .f32⟩
  | 113 => ⟨S50000x1, .i32⟩
  | 114 => ⟨S64, .f32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S1, .i32⟩
  | 124 => ⟨S_, .i32⟩
  | 125 => ⟨S50000x1, .i32⟩
  | 126 => ⟨S50000x1, .i1⟩
  | 127 => ⟨S1x1, .i32⟩
  | _ => ⟨S50000x64, .f32⟩

abbrev hbmTy0_2 (i : Nat) : BufTy := match i % 128 with
  | 0 => ⟨S50000x1, .i32⟩
  | 1 => ⟨S50000x1, .i1⟩
  | 2 => ⟨S50000x1, .i1⟩
  | 3 => ⟨S_, .i1⟩
  | 4 => ⟨S50000, .i1⟩
  | 5 => ⟨S50000, .f32⟩
  | 6 => ⟨S_, .f32⟩
  | 7 => ⟨S50000, .f32⟩
  | 8 => ⟨S50000, .f32⟩
  | 9 => ⟨S50000, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_call1_cst : Ref sig .tc := ⟨.hbm, 48, rfl⟩
abbrev main_call1_v0 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v11 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_call4_cst : Ref sig .tc := ⟨.hbm, 106, rfl⟩
abbrev main_call4_v0 : Ref sig .tc := ⟨.hbm, 107, rfl⟩
abbrev main_v18 : Ref sig .tc := ⟨.hbm, 108, rfl⟩
abbrev main_cst : Ref sig .tc := ⟨.hbm, 109, rfl⟩
abbrev main_v19 : Ref sig .tc := ⟨.hbm, 110, rfl⟩
abbrev main_v20 : Ref sig .tc := ⟨.hbm, 111, rfl⟩
abbrev main_v21 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_call5_cst : Ref sig .tc := ⟨.hbm, 119, rfl⟩
abbrev main_call5_v0 : Ref sig .tc := ⟨.hbm, 120, rfl⟩
abbrev main_v28 : Ref sig .tc := ⟨.hbm, 121, rfl⟩
abbrev main_call6_c : Ref sig .tc := ⟨.hbm, 122, rfl⟩
abbrev main_call6_v0 : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_v5 : Ref sig .tc := ⟨.hbm, 129, rfl⟩
abbrev main_call6_c_1 : Ref sig .tc := ⟨.hbm, 130, rfl⟩
abbrev main_call6_c_2 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_call6_c_3 : Ref sig .tc := ⟨.hbm, 138, rfl⟩
abbrev main_call6_v12 : Ref sig .tc := ⟨.hbm, 139, rfl⟩
abbrev main_call6_v13 : Ref sig .tc := ⟨.hbm, 140, rfl⟩
abbrev main_call6_v14 : Ref sig .tc := ⟨.hbm, 141, rfl⟩
abbrev main_call6_cst : Ref sig .tc := ⟨.hbm, 142, rfl⟩
abbrev main_call6_v15 : Ref sig .tc := ⟨.hbm, 143, rfl⟩
abbrev main_v29 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_c_1 : Ref sig .tc := ⟨.hbm, 153, rfl⟩
abbrev main_call7_c_2 : Ref sig .tc := ⟨.hbm, 154, rfl⟩
abbrev main_call7_v6 : Ref sig .tc := ⟨.hbm, 155, rfl⟩
abbrev main_call7_v7 : Ref sig .tc := ⟨.hbm, 156, rfl⟩
abbrev main_call7_v8 : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_c_3 : Ref sig .tc := ⟨.hbm, 161, rfl⟩
abbrev main_call7_v12 : Ref sig .tc := ⟨.hbm, 162, rfl⟩
abbrev main_call7_v13 : Ref sig .tc := ⟨.hbm, 163, rfl⟩
abbrev main_call7_v14 : Ref sig .tc := ⟨.hbm, 164, rfl⟩
abbrev main_call7_cst : Ref sig .tc := ⟨.hbm, 165, rfl⟩
abbrev main_call7_v15 : Ref sig .tc := ⟨.hbm, 166, rfl⟩
abbrev main_v30 : Ref sig .tc := ⟨.hbm, 167, rfl⟩
abbrev main_v31 : Ref sig .tc := ⟨.hbm, 168, rfl⟩
abbrev main_v32 : Ref sig .tc := ⟨.hbm, 169, rfl⟩
abbrev main_v33 : Ref sig .tc := ⟨.hbm, 170, rfl⟩
abbrev main_v34 : Ref sig .tc := ⟨.hbm, 171, rfl⟩
abbrev main_v35 : Ref sig .tc := ⟨.hbm, 172, rfl⟩
abbrev main_call8_cst : Ref sig .tc := ⟨.hbm, 173, rfl⟩
abbrev main_call8_v0 : Ref sig .tc := ⟨.hbm, 174, rfl⟩
abbrev main_v36 : Ref sig .tc := ⟨.hbm, 175, rfl⟩
abbrev main_cst_0 : Ref sig .tc := ⟨.hbm, 176, rfl⟩
abbrev main_v37 : Ref sig .tc := ⟨.hbm, 177, rfl⟩
abbrev main_v38 : Ref sig .tc := ⟨.hbm, 178, rfl⟩
abbrev main_v39 : Ref sig .tc := ⟨.hbm, 179, rfl⟩
abbrev main_v40 : Ref sig .tc := ⟨.hbm, 180, rfl⟩
abbrev main_v41 : Ref sig .tc := ⟨.hbm, 181, rfl⟩
abbrev main_v42 : Ref sig .tc := ⟨.hbm, 182, rfl⟩
abbrev main_v43 : Ref sig .tc := ⟨.hbm, 183, rfl⟩
abbrev main_v44 : Ref sig .tc := ⟨.hbm, 184, rfl⟩
abbrev main_v45 : Ref sig .tc := ⟨.hbm, 185, rfl⟩
abbrev main_call9_cst : Ref sig .tc := ⟨.hbm, 186, rfl⟩
abbrev main_call9_v0 : Ref sig .tc := ⟨.hbm, 187, rfl⟩
abbrev main_v46 : Ref sig .tc := ⟨.hbm, 188, rfl⟩
abbrev main_v47 : Ref sig .tc := ⟨.hbm, 189, rfl⟩
abbrev main_v48 : Ref sig .tc := ⟨.hbm, 190, rfl⟩
abbrev main_v49 : Ref sig .tc := ⟨.hbm, 191, rfl⟩
abbrev main_v50 : Ref sig .tc := ⟨.hbm, 192, rfl⟩
abbrev main_call10_cst : Ref sig .tc := ⟨.hbm, 193, rfl⟩
abbrev main_call10_v0 : Ref sig .tc := ⟨.hbm, 194, rfl⟩
abbrev main_v51 : Ref sig .tc := ⟨.hbm, 195, rfl⟩
abbrev main_v52 : Ref sig .tc := ⟨.hbm, 196, rfl⟩
abbrev main_v53 : Ref sig .tc := ⟨.hbm, 197, rfl⟩
abbrev main_v54 : Ref sig .tc := ⟨.hbm, 198, rfl⟩
abbrev main_v55 : Ref sig .tc := ⟨.hbm, 199, rfl⟩
abbrev main_v56 : Ref sig .tc := ⟨.hbm, 200, rfl⟩
abbrev main_v57 : Ref sig .tc := ⟨.hbm, 201, rfl⟩
abbrev main_v58 : Ref sig .tc := ⟨.hbm, 202, rfl⟩
abbrev main_v59 : Ref sig .tc := ⟨.hbm, 203, rfl⟩
abbrev main_v60 : Ref sig .tc := ⟨.hbm, 204, rfl⟩
abbrev main_v61 : Ref sig .tc := ⟨.hbm, 205, rfl⟩
abbrev main_v62 : Ref sig .tc := ⟨.hbm, 206, rfl⟩
abbrev main_v63 : Ref sig .tc := ⟨.hbm, 207, rfl⟩
abbrev main_cst_1 : Ref sig .tc := ⟨.hbm, 208, rfl⟩
abbrev main_call11_v0 : Ref sig .tc := ⟨.hbm, 209, rfl⟩
abbrev main_call11_v1 : Ref sig .tc := ⟨.hbm, 210, rfl⟩
abbrev main_call11_v2 : Ref sig .tc := ⟨.hbm, 211, rfl⟩
abbrev main_v64 : Ref sig .tc := ⟨.hbm, 212, rfl⟩
abbrev main_cst_2 : Ref sig .tc := ⟨.hbm, 213, rfl⟩
abbrev main_v65 : Ref sig .tc := ⟨.hbm, 214, rfl⟩
abbrev main_call12_c : Ref sig .tc := ⟨.hbm, 215, rfl⟩
abbrev main_call12_v0 : Ref sig .tc := ⟨.hbm, 216, rfl⟩
abbrev main_call12_v1 : Ref sig .tc := ⟨.hbm, 217, rfl⟩
abbrev main_call12_c_0 : Ref sig .tc := ⟨.hbm, 218, rfl⟩
abbrev main_call12_v2 : Ref sig .tc := ⟨.hbm, 219, rfl⟩
abbrev main_call12_v3 : Ref sig .tc := ⟨.hbm, 220, rfl⟩
abbrev main_call12_v4 : Ref sig .tc := ⟨.hbm, 221, rfl⟩
abbrev main_call12_v5 : Ref sig .tc := ⟨.hbm, 222, rfl⟩
abbrev main_call12_c_1 : Ref sig .tc := ⟨.hbm, 223, rfl⟩
abbrev main_call12_c_2 : Ref sig .tc := ⟨.hbm, 224, rfl⟩
abbrev main_call12_v6 : Ref sig .tc := ⟨.hbm, 225, rfl⟩
abbrev main_call12_v7 : Ref sig .tc := ⟨.hbm, 226, rfl⟩
abbrev main_call12_v8 : Ref sig .tc := ⟨.hbm, 227, rfl⟩
abbrev main_call12_v9 : Ref sig .tc := ⟨.hbm, 228, rfl⟩
abbrev main_call12_v10 : Ref sig .tc := ⟨.hbm, 229, rfl⟩
abbrev main_call12_v11 : Ref sig .tc := ⟨.hbm, 230, rfl⟩
abbrev main_call12_c_3 : Ref sig .tc := ⟨.hbm, 231, rfl⟩
abbrev main_call12_v12 : Ref sig .tc := ⟨.hbm, 232, rfl⟩
abbrev main_call12_v13 : Ref sig .tc := ⟨.hbm, 233, rfl⟩
abbrev main_call12_cst : Ref sig .tc := ⟨.hbm, 234, rfl⟩
abbrev main_call12_v14 : Ref sig .tc := ⟨.hbm, 235, rfl⟩
abbrev main_v66 : Ref sig .tc := ⟨.hbm, 236, rfl⟩
abbrev main_v67 : Ref sig .tc := ⟨.hbm, 237, rfl⟩
abbrev main_v68 : Ref sig .tc := ⟨.hbm, 238, rfl⟩
abbrev main_cst_3 : Ref sig .tc := ⟨.hbm, 239, rfl⟩
abbrev main_v69 : Ref sig .tc := ⟨.hbm, 240, rfl⟩
abbrev main_v70 : Ref sig .tc := ⟨.hbm, 241, rfl⟩
abbrev main_v71 : Ref sig .tc := ⟨.hbm, 242, rfl⟩
abbrev main_call13_c : Ref sig .tc := ⟨.hbm, 243, rfl⟩
abbrev main_call13_v0 : Ref sig .tc := ⟨.hbm, 244, rfl⟩
abbrev main_call13_v1 : Ref sig .tc := ⟨.hbm, 245, rfl⟩
abbrev main_call13_c_0 : Ref sig .tc := ⟨.hbm, 246, rfl⟩
abbrev main_call13_v2 : Ref sig .tc := ⟨.hbm, 247, rfl⟩
abbrev main_call13_v3 : Ref sig .tc := ⟨.hbm, 248, rfl⟩
abbrev main_call13_v4 : Ref sig .tc := ⟨.hbm, 249, rfl⟩
abbrev main_call13_v5 : Ref sig .tc := ⟨.hbm, 250, rfl⟩
abbrev main_call13_c_1 : Ref sig .tc := ⟨.hbm, 251, rfl⟩
abbrev main_call13_c_2 : Ref sig .tc := ⟨.hbm, 252, rfl⟩
abbrev main_call13_v6 : Ref sig .tc := ⟨.hbm, 253, rfl⟩
abbrev main_call13_v7 : Ref sig .tc := ⟨.hbm, 254, rfl⟩
abbrev main_call13_v8 : Ref sig .tc := ⟨.hbm, 255, rfl⟩
abbrev main_call13_v9 : Ref sig .tc := ⟨.hbm, 256, rfl⟩
abbrev main_call13_v10 : Ref sig .tc := ⟨.hbm, 257, rfl⟩
abbrev main_call13_v11 : Ref sig .tc := ⟨.hbm, 258, rfl⟩
abbrev main_call13_c_3 : Ref sig .tc := ⟨.hbm, 259, rfl⟩
abbrev main_call13_v12 : Ref sig .tc := ⟨.hbm, 260, rfl⟩
abbrev main_call13_v13 : Ref sig .tc := ⟨.hbm, 261, rfl⟩
abbrev main_call13_cst : Ref sig .tc := ⟨.hbm, 262, rfl⟩
abbrev main_call13_v14 : Ref sig .tc := ⟨.hbm, 263, rfl⟩
abbrev main_v72 : Ref sig .tc := ⟨.hbm, 264, rfl⟩
abbrev main_v73 : Ref sig .tc := ⟨.hbm, 265, rfl⟩

abbrev nD : Nat := 1
abbrev τ : Topo := Topo.v7x

variable {F : FTy → Type} [FloatOps F]
-- ==== Proof.KernelChain.lean ====
/-
  THE KERNEL'S TWO SWEEPS OVER THE 64 GRAPHS: the body writes the 64 steps out one after another; here each sweep is a
  recursion on the number of graphs done, and the value the body stores is read off the two recursions.
-/
module

public import proofs.«01_k».proof.Proof.Gen.KernelIdeal.Frame
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe
open Idealize.SL.Sem

variable {F : FTy → Type} [FloatOps F] [Named F]

/-- Where a node belongs to graph number `g`. -/
def inGraph (ng : IVec S391x128 32) (g : ℕ) : IVec S391x128 1 :=
  cmpi .eq ng (broadcast S391x128 (BitVec.ofNat 32 g))

/-- The largest entry over a whole sheet of nodes. -/
def sheetMax (x : FVec F S391x128 .f32) : F .f32 :=
  extractAt ![0, 0, 0] (shapeCast S1x1x1 (multiReduction .maximumf [1, 2] S1
    (shapeCast S1x391x128 x shapeCasts_S391x128_S1x391x128) 0xFF800000#32 reduces_S1x391x128_S1 (.inl rfl) rfl)
    shapeCasts_S1_S1x1x1) inpos_S1x1x1_p0_0_0

/-- The sum of the entries over a whole sheet of nodes. -/
def sheetSum (x : FVec F S391x128 .f32) : F .f32 :=
  extractAt ![0, 0, 0] (shapeCast S1x1x1 (multiReduction .add [1, 2] S1
    (shapeCast S1x391x128 x shapeCasts_S391x128_S1x391x128) 0x00000000#32 reduces_S1x391x128_S1 (.inl rfl) rfl)
    shapeCasts_S1_S1x1x1) inpos_S1x1x1_p0_0_0

/-- The masking value in every place. -/
def maskSheet : FVec F S391x128 .f32 := broadcast S391x128 (Named.named κ "mask" 0xF149F2CA#32)

/-- The first sweep after `n` graphs: each node of a graph done holds its graph's largest logit. -/
def maxSweep (lg : FVec F S391x128 .f32) (ng : IVec S391x128 32) (n : ℕ) : FVec F S391x128 .f32 :=
  Nat.rec maskSheet (fun g acc =>
    select (inGraph ng g) (broadcast S391x128 (sheetMax (select (inGraph ng g) lg maskSheet))) acc) n

/-- The exponentials of the logits, each less its graph's largest. -/
def expSheet (lg : FVec F S391x128 .f32) (ng : IVec S391x128 32) : FVec F S391x128 .f32 :=
  exp (subf lg (maxSweep lg ng 64))

/-- The second sweep after `n` graphs: each node of a graph done holds the sum of its graph's entries. -/
def sumSweep (ng : IVec S391x128 32) (z : FVec F S391x128 .f32) (n : ℕ) : FVec F S391x128 .f32 :=
  Nat.rec (broadcast S391x128 (Scalar.ofBits .f32 0x3F800000#32)) (fun g acc =>
    select (inGraph ng g) (broadcast S391x128 (sheetSum (select (inGraph ng g) z
      (broadcast S391x128 (Scalar.ofBits .f32 0x00000000#32))))) acc) n

variable (x0 : Vec F S50048x64 .f32) (x1 : Vec F S64x64 .f32) (x2 : Vec F S1x64 .f32) (x3 : Vec F S64x1 .f32)
  (x4 : Vec F S1x1 .f32) (x5 : Vec F S391x128 .i32)

/-- The body's first 60 steps of the first sweep. -/
theorem pay79_eq : k0_pay79 x0 x1 x2 x3 x4 x5 =
    maxSweep (k0_pay77 x0 x1 x2 x3 x4 x5) (k0_pay78 x0 x1 x2 x3 x4 x5) 60 := by
  rfl

/-- The body's exponentials. -/
theorem pay81_eq : k0_pay81 x0 x1 x2 x3 x4 x5 =
    expSheet (k0_pay77 x0 x1 x2 x3 x4 x5) (k0_pay78 x0 x1 x2 x3 x4 x5) := by
  unfold k0_pay81
  rw [pay79_eq]
  rfl

/-- The body's first step of the second sweep. -/
theorem pay40_eq (lg : FVec F S391x128 .f32) (ng : IVec S391x128 32) (acc : FVec F S391x128 .f32) (c : IVec S391x128 1)
    (v : F .f32) : k0_pay40 lg ng acc c v = sumSweep ng (k0_pay39 lg ng acc c v) 1 := by
  unfold k0_pay40
  generalize k0_pay39 lg ng acc c v = z
  rfl

/-- The body's other steps of the second sweep, up to the last graph. -/
theorem pay74_eq (ng : IVec S391x128 32) (z : FVec F S391x128 .f32) :
    k0_pay74 ng z (k0_pay72 ng z (k0_pay69 ng z (k0_pay66 ng z (k0_pay64 ng z (k0_pay61 ng z
    (k0_pay60 ng z (k0_pay57 ng z (k0_pay54 ng z (k0_pay52 ng z (k0_pay49 ng z (k0_pay48 ng z (k0_pay45 ng z
    (k0_pay42 ng z (sumSweep ng z 1) k0_pay41) (k0_pay43 ng) (k0_pay44 ng z)) (k0_pay46 ng) (k0_pay47 (F := F))))
    (k0_pay50 ng) (k0_pay51 ng z)) (k0_pay53 ng)) (k0_pay55 ng) (k0_pay56 ng z)) (k0_pay58 ng) (k0_pay59
    ng z)) 38#32) (k0_pay62 ng) (k0_pay63 ng z)) (k0_pay65 ng) (Scalar.ofBits .f32 0x00000000#32)) (k0_pay67
    ng) (k0_pay68 ng z)) (k0_pay70 ng) (k0_pay71 ng z)) k0_pay73 = sumSweep ng z 63 := by
  rfl

/-- The last step of the second sweep and the division by what the sweep leaves. -/
theorem pay1_eq (ng : IVec S391x128 32) (z : FVec F S391x128 .f32) :
    k0_pay1 z (sumSweep ng z 63) (k0_pay75 ng) (k0_pay76 ng z) = divf z (sumSweep ng z 64) := by
  rfl

/-- What the body stores: the exponentials over the sums of their graphs. -/
theorem out_eq : out0_6 x0 x1 x2 x3 x4 x5 =
    View.canon [⟨r0_5, divf (expSheet (k0_pay77 x0 x1 x2 x3 x4 x5) (k0_pay78 x0 x1 x2 x3 x4 x5))
      (sumSweep (k0_pay78 x0 x1 x2 x3 x4 x5) (expSheet (k0_pay77 x0 x1 x2 x3 x4 x5) (k0_pay78 x0 x1 x2 x3 x4 x5)) 64)⟩] := by
  have e := pay81_eq x0 x1 x2 x3 x4 x5
  unfold out0_6
  rw [pay40_eq]
  unfold k0_pay81 at e ⊢
  rw [e, pay74_eq, pay1_eq]

/-- The membership mask of a node whose graph number is known. -/
theorem inGraph_apply {ng : IVec S391x128 32} {j : S391x128.Idx} {g n : ℕ} (h : ng j = BitVec.ofNat 32 g)
    (hg : g < 64) (hn : n < 64) : inGraph ng n j = if g = n then 1#1 else 0#1 := by
  have : (BitVec.ofNat 32 g = BitVec.ofNat 32 n) ↔ g = n := by
    rw [← BitVec.toNat_inj, BitVec.toNat_ofNat, BitVec.toNat_ofNat, Nat.mod_eq_of_lt (by omega), Nat.mod_eq_of_lt (by omega)]
  unfold inGraph
  pointwise
  rw [h]
  by_cases hgn : g = n
  · rw [if_pos hgn]
    rw [this.mpr hgn]
    simp [IntOp.cmpi]
  · rw [if_neg hgn]
    have h2 := mt this.mp hgn
    simp only [IntOp.cmpi, beq_eq_false_iff_ne.mpr h2]
    rfl

/-- A sweep of one choice per graph: where a node's graph is below the number of graphs done, the node holds what its
    graph's step put there. -/
theorem sweep_apply {α : Type} (init : S391x128.Idx → α) (v : ℕ → α) (ng : IVec S391x128 32) (j : S391x128.Idx) {g : ℕ}
    (h : ng j = BitVec.ofNat 32 g) (hg : g < 64) (n : ℕ) (hn : g < n) (hle : n ≤ 64) :
    (Nat.rec init (fun k acc => select (inGraph ng k) (broadcast S391x128 (v k)) acc) n : S391x128.Idx → α) j = v g := by
  induction n with
  | zero => exact absurd hn (Nat.not_lt_zero _)
  | succ n ih =>
    have e := inGraph_apply (n := n) h hg (by omega)
    show Scalar.select (inGraph ng n j) (v n) _ = v g
    rw [e]
    by_cases hgn : g = n
    · rw [if_pos hgn, hgn]
      exact if_pos rfl
    · rw [if_neg hgn]
      exact (if_neg (by decide)).trans (ih (by omega) (by omega))

/-- A node's entry after the first sweep. -/
theorem maxSweep_apply (lg : FVec F S391x128 .f32) (ng : IVec S391x128 32) (j : S391x128.Idx) {g : ℕ}
    (h : ng j = BitVec.ofNat 32 g) (hg : g < 64) :
    maxSweep lg ng 64 j = sheetMax (select (inGraph ng g) lg maskSheet) :=
  sweep_apply maskSheet (fun g => sheetMax (select (inGraph ng g) lg maskSheet)) ng j h hg 64 hg (le_refl _)

/-- A node's entry after the second sweep. -/
theorem sumSweep_apply (ng : IVec S391x128 32) (z : FVec F S391x128 .f32) (j : S391x128.Idx) {g : ℕ}
    (h : ng j = BitVec.ofNat 32 g) (hg : g < 64) :
    sumSweep ng z 64 j =
      sheetSum (select (inGraph ng g) z (broadcast S391x128 (Scalar.ofBits .f32 0x00000000#32))) :=
  sweep_apply _ (fun g => sheetSum (select (inGraph ng g) z (broadcast S391x128 (Scalar.ofBits .f32 0x00000000#32))))
    ng j h hg 64 hg (le_refl _)

/-- The sheet's largest entry is below a bound exactly when every entry is. -/
theorem sheetMax_le (x : FVec Ideal S391x128 .f32) (b : Ideal .f32) :
    sheetMax x ≤ b ↔ ∀ (r : Fin 391) (s : Fin 128), x (ix2 r s) ≤ b := by
  pointwise [sheetMax]
  rw [Finset.fold_max_le]
  simp only [Finset.mem_univ, true_imp_iff, Prod.forall]
  refine and_iff_right ?_
  rw [show Ideal.ofBits FTy.f32 4286578688#32 = ⊥ from ?_]
  · exact bot_le
  · simp [Ideal.ofBits, Ideal.ieee]

/-- The sheet's sum, row by row. -/
theorem sheetSum_eq (x : FVec Ideal S391x128 .f32) :
    sheetSum x = ∑ r : Fin 391, ∑ s : Fin 128, x (ix2 r s) := by
  pointwise [sheetSum]

end Cert.KernelIdeal.Body

end
-- ==== Proof.Spec.lean ====
/-
  THE MATHEMATICS BOTH PROGRAMS COME TO AFTER THE NODE FEATURES: a node's logit from its features, and the softmax of
  the logits within each graph, over the extended reals.
-/
module

public import proofs.«01_k».proof.Proof.Gen.KernelIdeal
public import Idealize.ShloMosaic.Lib.Pointwise

@[expose] public section

set_option maxRecDepth 16384

noncomputable section

namespace Cert.Spec

open Cert.KernelIdeal Idealize.ShloMosaic

/-- A node's logit from its 64 features: a hidden layer of 64 units with its positive part, then one output. -/
def logit (x : Fin 64 → EReal) (w1 : FVec Ideal S64x64 .f32) (b1 : FVec Ideal S64 .f32) (w2 : FVec Ideal S64x1 .f32)
    (b2 : FVec Ideal S1 .f32) : EReal :=
  (∑ k : Fin 64, max ((∑ l : Fin 64, x l * w1 (ix2 l k)) + b1 (ix1 k)) 0 * w2 (ix2 k 0)) + b2 (ix1 0)

variable (l : Fin 50000 → EReal) (γ : Fin 50000 → BitVec 32)

/-- The largest logit of a graph. -/
def graphMax (v : BitVec 32) : EReal := Finset.univ.sup fun n => if γ n = v then l n else ⊥

/-- A node's exponential: of its logit less its graph's largest. -/
def expo (n : Fin 50000) : EReal := Ideal.exp (l n - graphMax l γ (γ n))

/-- The sum of a graph's exponentials. -/
def graphSum (v : BitVec 32) : EReal := ∑ n, if γ n = v then expo l γ n else 0

/-- A node's share of its graph. -/
def softmax (n : Fin 50000) : EReal := Ideal.div (expo l γ n) (graphSum l γ (γ n))

/-- A graph's largest logit is below a bound exactly when its nodes' logits are. -/
theorem graphMax_le (v : BitVec 32) (b : EReal) : graphMax l γ v ≤ b ↔ ∀ n, γ n = v → l n ≤ b := by
  unfold graphMax
  rw [Finset.sup_le_iff]
  refine forall_congr' fun n => ?_
  by_cases h : γ n = v <;> simp [h]

/-- Below the least element minus anything. -/
theorem exp_bot_sub (m : EReal) : Ideal.exp (⊥ - m) = 0 := by
  rw [EReal.bot_sub]
  rfl

end Cert.Spec

end
-- ==== Proof.KernelVal.lean ====
/-
  THE KERNEL'S RESULT AT A NODE, over the extended reals: from the sheet of logits and the sheet of graph numbers the
  body's stored value is the softmax within the node's graph. The 48 added nodes have the least logit, so they never
  raise a maximum and add nothing to a sum.
-/
module

public import proofs.«01_k».proof.Proof.KernelChain
public import proofs.«01_k».proof.Proof.Spec

@[expose] public section

set_option maxRecDepth 16384

noncomputable section

namespace Cert.KernelIdeal.Body

open Cert.KernelIdeal Cert.KernelIdeal.Gen Idealize.ShloMosaic Idealize.ShloMosaic.TcCoe
open Idealize.SL.Sem

/-- Node `n`'s place in the sheet: 128 nodes to a row. -/
abbrev place (n : Fin 50000) : S391x128.Idx :=
  ix2 (⟨n.val / 128, by omega⟩ : Fin 391) (⟨n.val % 128, Nat.mod_lt _ (by decide)⟩ : Fin 128)

section Sheets

variable {lg : FVec Ideal S391x128 .f32} {ng : IVec S391x128 32} {l : Fin 50000 → EReal} {γ : Fin 50000 → BitVec 32}

/-- A sheet of logits: the nodes' own at their places, the least value at the added ones. -/
structure Sheets (lg : FVec Ideal S391x128 .f32) (ng : IVec S391x128 32) (l : Fin 50000 → EReal)
    (γ : Fin 50000 → BitVec 32) : Prop where
  logit : ∀ n, lg (place n) = l n
  added : ∀ (r : Fin 391) (s : Fin 128), 50000 ≤ r.val * 128 + s.val → lg (ix2 r s) = (⊥ : EReal)
  graph : ∀ n, ng (place n) = γ n
  below : ∀ n, ∃ g : ℕ, g < 64 ∧ γ n = BitVec.ofNat 32 g

/-- Every place holds a node or an added one. -/
theorem place_cases (r : Fin 391) (s : Fin 128) :
    (∃ n, ix2 r s = place n) ∨ 50000 ≤ r.val * 128 + s.val := by
  by_cases h : r.val * 128 + s.val < 50000
  · refine Or.inl ⟨⟨r.val * 128 + s.val, h⟩, ?_⟩
    congr 1 <;> (ext; simp only []; omega)
  · exact Or.inr (by omega)

/-- A membership mask chooses by equality of graph numbers. -/
theorem select_inGraph (a b : FVec Ideal S391x128 .f32) (g : ℕ) (j : S391x128.Idx) :
    select (inGraph ng g) a b j = if ng j = BitVec.ofNat 32 g then a j else b j := by
  show Scalar.select (IntOp.cmpi .eq (ng j) (BitVec.ofNat 32 g)) (a j) (b j) = _
  by_cases h : ng j = BitVec.ofNat 32 g
  · rw [if_pos h, h]
    simp [IntOp.cmpi, Scalar.select]
  · rw [if_neg h]
    simp only [IntOp.cmpi, beq_eq_false_iff_ne.mpr h]
    exact if_neg (by decide)

/-- The masking value is the least one. -/
theorem maskSheet_apply (j : S391x128.Idx) : (maskSheet (F := Ideal)) j = (⊥ : EReal) := rfl

/-- The first sweep leaves a node its graph's largest logit. -/
theorem maxSweep_place (h : Sheets lg ng l γ) (n : Fin 50000) :
    maxSweep lg ng 64 (place n) = Spec.graphMax l γ (γ n) := by
  obtain ⟨g, hg, e⟩ := h.below n
  rw [maxSweep_apply lg ng (place n) ((h.graph n).trans e) hg, e]
  refine eq_of_forall_ge_iff fun b => ?_
  rw [sheetMax_le, Spec.graphMax_le]
  constructor
  · intro H k hk
    have := H ⟨k.val / 128, by omega⟩ ⟨k.val % 128, Nat.mod_lt _ (by decide)⟩
    rw [select_inGraph, if_pos ((h.graph k).trans hk)] at this
    exact (h.logit k) ▸ this
  · intro H r s
    rw [select_inGraph]
    split
    · next hrs =>
      rcases place_cases r s with ⟨k, ek⟩ | hk
      · rw [ek] at hrs ⊢
        rw [h.logit k]
        exact H k ((h.graph k).symm.trans hrs)
      · rw [h.added r s hk]; exact bot_le
    · rw [maskSheet_apply]; exact bot_le

/-- The exponentials at the nodes. -/
theorem expSheet_place (h : Sheets lg ng l γ) (n : Fin 50000) : expSheet lg ng (place n) = Spec.expo l γ n := by
  show Ideal.exp (lg (place n) - maxSweep lg ng 64 (place n)) = _
  rw [h.logit, maxSweep_place h]
  rfl

/-- The exponentials at the added nodes are zero. -/
theorem expSheet_added (h : Sheets lg ng l γ) (r : Fin 391) (s : Fin 128) (hk : 50000 ≤ r.val * 128 + s.val) :
    expSheet lg ng (ix2 r s) = (0 : EReal) := by
  show Ideal.exp (lg (ix2 r s) - maxSweep lg ng 64 (ix2 r s)) = _
  rw [h.added r s hk]
  exact Spec.exp_bot_sub _

/-- A sum over the sheet's places of a function that is zero at the added ones is a sum over the nodes. -/
theorem sum_places (f : S391x128.Idx → EReal)
    (h0 : ∀ (r : Fin 391) (s : Fin 128), 50000 ≤ r.val * 128 + s.val → f (ix2 r s) = 0) :
    ∑ r : Fin 391, ∑ s : Fin 128, f (ix2 r s) = ∑ n, f (place n) := by
  let F : Fin (50000 + 48) → EReal := fun k =>
    f (ix2 (⟨k.val / 128, by omega⟩ : Fin 391) (⟨k.val % 128, Nat.mod_lt _ (by decide)⟩ : Fin 128))
  have e1 : ∑ k, F k = ∑ r : Fin 391, ∑ s : Fin 128, f (ix2 r s) := by
    rw [Fin.sum_univ_tiles 391 128 rfl F]
    refine Finset.sum_congr rfl fun r _ => Finset.sum_congr rfl fun s _ => ?_
    have hr := r.isLt
    have hs := s.isLt
    refine congrArg f ?_
    congr 1 <;> (ext; simp only []; omega)
  have e2 : ∑ k : Fin 48, F (Fin.natAdd 50000 k) = 0 := by
    refine Finset.sum_eq_zero fun k _ => h0 _ _ ?_
    simp only [Fin.val_natAdd]
    omega
  rw [← e1, Fin.sum_univ_add, e2, add_zero]
  rfl

/-- The second sweep leaves a node the sum of its graph's exponentials. -/
theorem sumSweep_place (h : Sheets lg ng l γ) (n : Fin 50000) :
    sumSweep ng (expSheet lg ng) 64 (place n) = Spec.graphSum l γ (γ n) := by
  obtain ⟨g, hg, e⟩ := h.below n
  rw [sumSweep_apply ng _ (place n) ((h.graph n).trans e) hg, e, sheetSum_eq, sum_places]
  · refine Finset.sum_congr rfl fun k _ => ?_
    rw [select_inGraph, h.graph, expSheet_place h]
    refine if_congr Iff.rfl rfl ?_
    exact Ideal.ofBits_zero .f32
  · intro r s hk
    rw [select_inGraph, expSheet_added h r s hk]
    refine (ite_congr rfl (fun _ => rfl) fun _ => ?_).trans (ite_self _)
    exact Ideal.ofBits_zero .f32

/-- What the body stores at a node's place. -/
theorem stored_place (h : Sheets lg ng l γ) (n : Fin 50000) :
    divf (expSheet lg ng) (sumSweep ng (expSheet lg ng) 64) (place n) = Spec.softmax l γ n := by
  show Ideal.div (expSheet lg ng (place n)) (sumSweep ng (expSheet lg ng) 64 (place n)) = _
  rw [expSheet_place h, sumSweep_place h]
  rfl

end Sheets

end Cert.KernelIdeal.Body

end
-- ==== Proof.Net.lean ====
/-
  THE NETWORK'S STAGES AS FUNCTIONS OF ARRAYS: the input projection, the per-edge message, the scatter-add of messages,
  the node update, and the two gathers by an index array (`jnp.take` with its out-of-range rows filled). Both programs
  run these operations on the host; a node's features after the two blocks are one function of the arguments, `nodes`.
-/
module

public import proofs.«01_k».proof.Proof.Gen.KernelIdeal
public import Idealize.ShloMosaic.Lib.StableHlo.Run

@[expose] public section

set_option maxRecDepth 16384

noncomputable section

namespace Cert.Net

open Cert.KernelIdeal Cert.KernelIdeal.Gen Idealize.ShloMosaic Idealize.ShloMosaic.TcCoe

variable {F : FTy → Type} [FloatOps F]

/-- Two graph tables side by side. -/
def graphTable (a b : FVec F S64x64 .f32) : FVec F S64x128 .f32 :=
  concatenate S64x128 1 [⟨S64x64, a⟩, ⟨S64x64, b⟩] concatenates_S64x64_S64x64_S64x128_d1

/-- A node's graph number as a start index: a negative number counts from the end of the 64 graphs. -/
def wrapGraph (ng : IVec S50000 32) : IVec S50000x1 32 :=
  broadcastInDim S50000x1 ![0] bcast_S50000_S50000x1_0
    (select (cmpi .slt ng (broadcastInDim S50000 ![] bcast_S_S50000 (constantI S_ 32 0#32)))
      (addi ng (broadcastInDim S50000 ![] bcast_S_S50000 (constantI S_ 32 64#32))) ng)

/-- Whether a start index names one of the 64 graphs. -/
def graphOk (ix : IVec S50000x1 32) : IVec S50000 1 :=
  Host.reduce IntOp.andi
    (andi (cmpi .sge ix (broadcastInDim S50000x1 ![] bcast_S_S50000x1 (constantI S_ 32 0#32)))
      (cmpi .sle ix (broadcastInDim S50000x1 ![0, 1] bcast_S1x1_S50000x1_0_1
        (broadcastInDim S1x1 ![1] bcast_S1_S1x1_1 (constantI S1 32 63#32)))))
    (constantI S_ 1 1#1) reducesTo_S50000x1_S50000_d1 h_S_

/-- Each node's row of a graph table, a row out of range filled. -/
def takeGraph (tbl : FVec F S64x128 .f32) (ng : IVec S50000 32) : FVec F S50000x128 .f32 :=
  select (broadcastInDim S50000x128 ![0] bcast_S50000_S50000x128_0 (graphOk (wrapGraph ng)))
    (Host.gather gather_S64x128_S50000x1_S50000x128_1_0_n_n_0_1_1128 tbl (wrapGraph ng))
    (broadcastInDim S50000x128 ![] bcast_S_S50000x128 (constant S_ .f32 0x7FC00000#32))

/-- A dense layer on the nodes, before its nonlinearity. -/
def nodeDense (x : FVec F S50000x64 .f32) (w : FVec F S64x64 .f32) (b : FVec F S64 .f32) : FVec F S50000x64 .f32 :=
  addf (Host.dotGeneral dot_S50000x64_S64x64_S50000x64_1_0_0_1_n_n none x w)
    (broadcastInDim S50000x64 ![0, 1] bcast_S1x64_S50000x64_0_1 (broadcastInDim S1x64 ![1] bcast_S64_S1x64_1 b))

/-- The positive part, on node features. -/
def nodeRelu (x : FVec F S50000x64 .f32) : FVec F S50000x64 .f32 :=
  maximumf x (broadcastInDim S50000x64 ![] bcast_S_S50000x64 (constant S_ .f32 0x00000000#32))

/-- The edges' source nodes. -/
def srcRow (e : IVec S2x800000 32) : IVec S800000 32 :=
  shapeCast S800000 (extractStridedSlice S1x800000 ![0, 0] e slices_S2x800000_S1x800000_0_0) shapeCasts_S1x800000_S800000

/-- The edges' destination nodes. -/
def dstRow (e : IVec S2x800000 32) : IVec S800000 32 :=
  shapeCast S800000 (extractStridedSlice S1x800000 ![1, 0] e slices_S2x800000_S1x800000_1_0) shapeCasts_S1x800000_S800000

/-- An edge's node number as a start index: a negative number counts from the end of the 50000 nodes. -/
def wrapNode (ix : IVec S800000 32) : IVec S800000x1 32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- Whether a start index names one of the 50000 nodes. -/
def nodeOk (ix : IVec S800000x1 32) : IVec S800000 1 :=
  Host.reduce IntOp.andi
    (andi (cmpi .sge ix (broadcastInDim S800000x1 ![] bcast_S_S800000x1 (constantI S_ 32 0#32)))
      (cmpi .sle ix (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- Each edge's row of the node features, a row out of range filled. -/
def takeNode (x : FVec F S50000x64 .f32) (ix : IVec S800000 32) : FVec F S800000x64 .f32 :=
  select (broadcastInDim S800000x64 ![0] bcast_S800000_S800000x64_0 (nodeOk (wrapNode ix)))
    (Host.gather gather_S50000x64_S800000x1_S800000x64_1_0_n_n_0_1_164 x (wrapNode ix))
    (broadcastInDim S800000x64 ![] bcast_S_S800000x64 (constant S_ .f32 0x7FC00000#32))

/-- The message layer on source features, destination features and edge features, before its nonlinearity. -/
def edgeDense (a b : FVec F S800000x64 .f32) (e : FVec F S800000x16 .f32) (w : FVec F S144x64 .f32) (bias : FVec F S64 .f32) :
    FVec F S800000x64 .f32 :=
  addf (Host.dotGeneral dot_S800000x144_S144x64_S800000x64_1_0_0_1_n_n none
      (concatenate S800000x144 1 [⟨S800000x64, a⟩, ⟨S800000x64, b⟩, ⟨S800000x16, e⟩]
        concatenates_S800000x64_S800000x64_S800000x16_S800000x144_d1) w)
    (broadcastInDim S800000x64 ![0, 1] bcast_S1x64_S800000x64_0_1 (broadcastInDim S1x64 ![1] bcast_S64_S1x64_1 bias))

/-- The positive part, on messages. -/
def edgeRelu (x : FVec F S800000x64 .f32) : FVec F S800000x64 .f32 :=
  maximumf x (broadcastInDim S800000x64 ![] bcast_S_S800000x64 (constant S_ .f32 0x00000000#32))

/-- The messages added up at their destination nodes. -/
def aggregate (dst : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

/-- The node update on features, aggregated messages and graph features, with its skip, before its nonlinearity. -/
def updateDense (x agg : FVec F S50000x64 .f32) (gn : FVec F S50000x128 .f32) (w : FVec F S256x64 .f32) (b : FVec F S64 .f32) :
    FVec F S50000x64 .f32 :=
  addf (addf x (Host.dotGeneral dot_S50000x256_S256x64_S50000x64_1_0_0_1_n_n none
      (concatenate S50000x256 1 [⟨S50000x64, x⟩, ⟨S50000x64, agg⟩, ⟨S50000x128, gn⟩]
        concatenates_S50000x64_S50000x64_S50000x128_S50000x256_d1) w))
    (broadcastInDim S50000x64 ![0, 1] bcast_S1x64_S50000x64_0_1 (broadcastInDim S1x64 ![1] bcast_S64_S1x64_1 b))

/-- One message-passing block: the node features after it. -/
def block (x : FVec F S50000x64 .f32) (gn : FVec F S50000x128 .f32) (src dst : IVec S800000 32) (e : FVec F S800000x16 .f32)
    (wm : FVec F S144x64 .f32) (bm : FVec F S64 .f32) (wu : FVec F S256x64 .f32) (bu : FVec F S64 .f32) :
    FVec F S50000x64 .f32 :=
  nodeRelu (updateDense x (aggregate dst (edgeRelu (edgeDense (takeNode x src) (takeNode x dst) e wm bm))) gn wu bu)

/-- The node features after the input projection and the two blocks. -/
def nodes (a0 : FVec F S50000x64 .f32) (a1 : IVec S2x800000 32) (a2 : FVec F S800000x16 .f32) (a3 a4 : FVec F S64x64 .f32)
    (a5 : IVec S50000 32) (a6 : FVec F S64x64 .f32) (a7 : FVec F S64 .f32) (a8 : FVec F S144x64 .f32) (a9 : FVec F S64 .f32)
    (a10 : FVec F S256x64 .f32) (a11 : FVec F S64 .f32) (a12 : FVec F S144x64 .f32) (a13 : FVec F S64 .f32)
    (a14 : FVec F S256x64 .f32) (a15 : FVec F S64 .f32) : FVec F S50000x64 .f32 :=
  block (block (nodeRelu (nodeDense a0 a6 a7)) (takeGraph (graphTable a3 a4) a5) (srcRow a1) (dstRow a1) a2 a8 a9 a10 a11)
    (takeGraph (graphTable a3 a4) a5) (srcRow a1) (dstRow a1) a2 a12 a13 a14 a15

end Cert.Net

end
-- ==== Proof.HostPrefix.lean ====
/-
  WHAT THE KERNEL'S REGION FINDS IN ITS OPERANDS: the host operations before it, window by window (each stated at any
  entering contents), then composed: the padded node features, the padded graph numbers, the reshaped biases.
-/
module

public import proofs.«01_k».proof.Proof.Gen.KernelIdeal.Frame
public import proofs.«01_k».proof.Proof.Net

@[expose] public section

set_option maxRecDepth 16384

noncomputable section

namespace Cert.KernelIdeal.Prefix

open Cert.KernelIdeal Cert.KernelIdeal.Gen Cert.Net Idealize.ShloMosaic Idealize.ShloMosaic.TcCoe
open Idealize.SL.Sem Idealize.ShloMosaic.StableHlo

variable {F : FTy → Type} [FloatOps F]

/-- Whether no operation of a list writes a buffer. -/
def keeps (ops : List (HloOp τ sig (Elt F))) (r : Ref sig .tc) : Bool :=
  ops.all fun op => decide (Proc.devRef (τ := τ) .tc r ∉ op.writes)

/-- A buffer that no operation of a list writes keeps its contents through them. -/
theorem after_keep {ops : List (HloOp τ sig (Elt F))} {V : Valuation τ sig (Elt F)} {r : Ref sig .tc}
    (h : keeps ops r = true) : after ops V (no_index (Proc.devRef .tc r)) = V (Proc.devRef .tc r) :=
  after_of_forall_not_mem ops V fun op hop => of_decide_eq_true (List.all_eq_true.mp h op hop)

/-- The node features with 48 rows of one value added. -/
def padRows (x : FVec F S50000x64 .f32) (v : FVec F S_ .f32) : FVec F S50048x64 .f32 :=
  pad S50048x64 ![0, 0] ![48, 0] ![0, 0] x v pads_S50000x64_S50048x64_0480_000 h_S_

/-- The graph numbers with 48 copies of one number added. -/
def padGraphs (x : IVec S50000 32) (v : IVec S_ 32) : IVec S50048 32 :=
  pad S50048 ![0] ![48] ![0] x v pads_S50000_S50048_0480 h_S_

variable (V : Valuation τ sig (Elt F))

/-- Window 0 lays the two graph tables side by side. -/
theorem win0 : after hostOps0 V (no_index (Proc.devRef .tc main_v0))
    = graphTable (V (Proc.devRef .tc main_arg3)) (V (Proc.devRef .tc main_arg4)) := by rfl

/-- Window 1 takes each node's row of the graph table. -/
theorem win1 : after hostOps0_1 V (no_index (Proc.devRef .tc main_v1))
    = takeGraph (V (Proc.devRef .tc main_v0)) (V (Proc.devRef .tc main_arg5)) := by
  simp only [hostOps0_1, TRef.binary, TRef.nullary, TRef.ternary, TRef.unary, TRef.toBuf, TRef.ofBuf, cast_eq]
  after_results_simp
  rfl

/-- Window 2 is the input projection's dense layer. -/
theorem win2 : after hostOps0_2 V (no_index (Proc.devRef .tc main_v5))
    = nodeDense (V (Proc.devRef .tc main_arg0)) (V (Proc.devRef .tc main_arg6)) (V (Proc.devRef .tc main_arg7)) := by rfl

/-- Window 3 is its positive part. -/
theorem win3 : after hostOps0_3 V (no_index (Proc.devRef .tc main_v6))
    = nodeRelu (V (Proc.devRef .tc main_v5)) := by rfl

/-- Window 4 cuts the edges' source nodes, -/
theorem win4_src : after hostOps0_4 V (no_index (Proc.devRef .tc main_v8))
    = srcRow (V (Proc.devRef .tc main_arg1)) := by rfl

/-- and their destination nodes. -/
theorem win4_dst : after hostOps0_4 V (no_index (Proc.devRef .tc main_v10))
    = dstRow (V (Proc.devRef .tc main_arg1)) := by rfl

/-- Window 5 takes each edge's source features for the first block. -/
theorem win5 : after hostOps0_5 V (no_index (Proc.devRef .tc main_v11))
    = takeNode (V (Proc.devRef .tc main_v6)) (V (Proc.devRef .tc main_v8)) := by
  simp only [hostOps0_5, TRef.binary, TRef.nullary, TRef.ternary, TRef.unary, TRef.toBuf, TRef.ofBuf, cast_eq]
  after_results_simp
  rfl

/-- Window 6 takes each edge's destination features for the first block. -/
theorem win6 : after hostOps0_6 V (no_index (Proc.devRef .tc main_v12))
    = takeNode (V (Proc.devRef .tc main_v6)) (V (Proc.devRef .tc main_v10)) := by
  simp only [hostOps0_6, TRef.binary, TRef.nullary, TRef.ternary, TRef.unary, TRef.toBuf, TRef.ofBuf, cast_eq]
  after_results_simp
  rfl

/-- Window 7 is the first block's message layer. -/
theorem win7 : after hostOps0_7 V (no_index (Proc.devRef .tc main_v17))
    = edgeDense (V (Proc.devRef .tc main_v11)) (V (Proc.devRef .tc main_v12)) (V (Proc.devRef .tc main_arg2)) (V (Proc.devRef .tc main_arg8)) (V (Proc.devRef .tc main_arg9)) := by rfl

/-- Window 8 is its positive part. -/
theorem win8 : after hostOps0_8 V (no_index (Proc.devRef .tc main_v18))
    = edgeRelu (V (Proc.devRef .tc main_v17)) := by rfl

/-- Window 9 adds the first block's messages up and updates the nodes. -/
theorem win9 : after hostOps0_9 V (no_index (Proc.devRef .tc main_v27))
    = updateDense (V (Proc.devRef .tc main_v6)) (aggregate (V (Proc.devRef .tc main_v10)) (V (Proc.devRef .tc main_v18))) (V (Proc.devRef .tc main_v1)) (V (Proc.devRef .tc main_arg10)) (V (Proc.devRef .tc main_arg11)) := by rfl

/-- Window 10 is the update's positive part. -/
theorem win10 : after hostOps0_10 V (no_index (Proc.devRef .tc main_v28))
    = nodeRelu (V (Proc.devRef .tc main_v27)) := by rfl

/-- Window 11 takes each edge's source features for the second block. -/
theorem win11 : after hostOps0_11 V (no_index (Proc.devRef .tc main_v29))
    = takeNode (V (Proc.devRef .tc main_v28)) (V (Proc.devRef .tc main_v8)) := by
  simp only [hostOps0_11, TRef.binary, TRef.nullary, TRef.ternary, TRef.unary, TRef.toBuf, TRef.ofBuf, cast_eq]
  after_results_simp
  rfl

/-- Window 12 takes each edge's destination features for the second block. -/
theorem win12 : after hostOps0_12 V (no_index (Proc.devRef .tc main_v30))
    = takeNode (V (Proc.devRef .tc main_v28)) (V (Proc.devRef .tc main_v10)) := by
  simp only [hostOps0_12, TRef.binary, TRef.nullary, TRef.ternary, TRef.unary, TRef.toBuf, TRef.ofBuf, cast_eq]
  after_results_simp
  rfl

/-- Window 13 is the second block's message layer. -/
theorem win13 : after hostOps0_13 V (no_index (Proc.devRef .tc main_v35))
    = edgeDense (V (Proc.devRef .tc main_v29)) (V (Proc.devRef .tc main_v30)) (V (Proc.devRef .tc main_arg2)) (V (Proc.devRef .tc main_arg12)) (V (Proc.devRef .tc main_arg13)) := by rfl

/-- Window 14 is its positive part. -/
theorem win14 : after hostOps0_14 V (no_index (Proc.devRef .tc main_v36))
    = edgeRelu (V (Proc.devRef .tc main_v35)) := by rfl

/-- Window 15 adds the second block's messages up and updates the nodes. -/
theorem win15 : after hostOps0_15 V (no_index (Proc.devRef .tc main_v45))
    = updateDense (V (Proc.devRef .tc main_v28)) (aggregate (V (Proc.devRef .tc main_v10)) (V (Proc.devRef .tc main_v36))) (V (Proc.devRef .tc main_v1)) (V (Proc.devRef .tc main_arg14)) (V (Proc.devRef .tc main_arg15)) := by rfl

/-- Window 16 is the update's positive part. -/
theorem win16 : after hostOps0_16 V (no_index (Proc.devRef .tc main_v46))
    = nodeRelu (V (Proc.devRef .tc main_v45)) := by rfl

/-- Window 17 writes the number the padding rows are converted from. -/
theorem win17 : after hostOps0_17 V (no_index (Proc.devRef .tc main_c))
    = constantI S_ 32 0#32 := by rfl

/-- Window 18 pads the node features by 48 rows. -/
theorem win18 : after hostOps0_18 V (no_index (Proc.devRef .tc main_v47))
    = padRows (V (Proc.devRef .tc main_v46)) (sitofp .f32 (V (Proc.devRef .tc main_c))) := by rfl

/-- Window 19 writes the padding nodes' graph number. -/
theorem win19 : after hostOps0_19 V (no_index (Proc.devRef .tc main_c_1))
    = constantI S_ 32 0#32 := by rfl

/-- Window 20 pads the graph numbers by 48. -/
theorem win20 : after hostOps0_20 V (no_index (Proc.devRef .tc main_v48))
    = padGraphs (V (Proc.devRef .tc main_arg5)) (V (Proc.devRef .tc main_c_1)) := by rfl

/-- Window 21 lays the graph numbers out in rows of 128, -/
theorem win21_graphs : after hostOps0_21 V (no_index (Proc.devRef .tc main_v49))
    = shapeCast S391x128 (V (Proc.devRef .tc main_v48)) shapeCasts_S50048_S391x128 := by rfl

/-- and lays the first bias out as a row, -/
theorem win21_bias1 : after hostOps0_21 V (no_index (Proc.devRef .tc main_v50))
    = shapeCast S1x64 (V (Proc.devRef .tc main_arg17)) shapeCasts_S64_S1x64 := by rfl

/-- and the second as one cell. -/
theorem win21_bias2 : after hostOps0_21 V (no_index (Proc.devRef .tc main_v51))
    = shapeCast S1x1 (V (Proc.devRef .tc main_arg19)) shapeCasts_S1_S1x1 := by rfl

/-- All the operations before the region, in order. -/
abbrev allOps : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]

/-- The region's node operand: the features after the two blocks, padded. -/
theorem rows_eq : after allOps V (Proc.devRef .tc main_v47)
    = padRows (nodes (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (sitofp .f32 (constantI S_ 32 0#32)) := by
  simp only [allOps, List.flatten_cons, List.flatten_nil, List.append_nil, after_append]
  simp (disch := (refine @id (keeps _ _ = true) ?_; with_unfolding_all rfl)) only [win0, win1, win2, win3, win4_src, win4_dst, win5, win6, win7, win8, win9, win10, win11, win12, win13, win14, win15, win16, win17, win18, win19, win20, win21_graphs, win21_bias1, win21_bias2,
    after_keep]
  rfl

/-- Its graph-number operand. -/
theorem graphs_eq : after allOps V (Proc.devRef .tc main_v49)
    = shapeCast S391x128 (padGraphs (V (Proc.devRef .tc main_arg5)) (constantI S_ 32 0#32)) shapeCasts_S50048_S391x128 := by
  simp only [allOps, List.flatten_cons, List.flatten_nil, List.append_nil, after_append]
  simp (disch := (refine @id (keeps _ _ = true) ?_; with_unfolding_all rfl)) only [win0, win1, win2, win3, win4_src, win4_dst, win5, win6, win7, win8, win9, win10, win11, win12, win13, win14, win15, win16, win17, win18, win19, win20, win21_graphs, win21_bias1, win21_bias2,
    after_keep]

/-- Its first bias operand. -/
theorem bias1_eq : after allOps V (Proc.devRef .tc main_v50) = shapeCast S1x64 (V (Proc.devRef .tc main_arg17)) shapeCasts_S64_S1x64 := by
  simp only [allOps, List.flatten_cons, List.flatten_nil, List.append_nil, after_append]
  simp (disch := (refine @id (keeps _ _ = true) ?_; with_unfolding_all rfl)) only [win0, win1, win2, win3, win4_src, win4_dst, win5, win6, win7, win8, win9, win10, win11, win12, win13, win14, win15, win16, win17, win18, win19, win20, win21_graphs, win21_bias1, win21_bias2,
    after_keep]

/-- Its second bias operand. -/
theorem bias2_eq : after allOps V (Proc.devRef .tc main_v51) = shapeCast S1x1 (V (Proc.devRef .tc main_arg19)) shapeCasts_S1_S1x1 := by
  simp only [allOps, List.flatten_cons, List.flatten_nil, List.append_nil, after_append]
  simp (disch := (refine @id (keeps _ _ = true) ?_; with_unfolding_all rfl)) only [win0, win1, win2, win3, win4_src, win4_dst, win5, win6, win7, win8, win9, win10, win11, win12, win13, win14, win15, win16, win17, win18, win19, win20, win21_graphs, win21_bias1, win21_bias2,
    after_keep]

end Cert.KernelIdeal.Prefix

end
-- ==== Proof.KernelLogit.lean ====
/-
  THE KERNEL'S SHEET OF LOGITS, place by place: the head's two layers on the node of the place, or the masking value
  where the place is past the last node.
-/
module

public import proofs.«01_k».proof.Proof.KernelVal
public import proofs.«01_k».proof.Proof.HostPrefix

@[expose] public section

set_option maxRecDepth 16384

noncomputable section

namespace Cert.KernelIdeal.Body

open Cert.KernelIdeal Cert.KernelIdeal.Gen Idealize.ShloMosaic Idealize.ShloMosaic.TcCoe
open Idealize.SL.Sem

variable (v0 : Vec Ideal S50048x64 .f32) (v2 : Vec Ideal S64x64 .f32) (v4 : Vec Ideal S1x64 .f32)
  (v11 : Vec Ideal S64x1 .f32) (v13 : Vec Ideal S1x1 .f32)

/-- The sheet of logits, place by place. -/
theorem pay2_apply (r : Fin 391) (s : Fin 128) :
    k0_pay2 v0 v2 v4 v11 v13 (ix2 r s) =
      if r.val * 128 + s.val < 50000 then
        (∑ k : Fin 64, max ((∑ l : Fin 64, v0 (ix2 (⟨r.val * 128 + s.val, by omega⟩ : Fin 50048) l) * v2 (ix2 l k))
          + v4 (ix2 0 k)) (0 : EReal) * v11 (ix2 k 0)) + v13 (ix2 0 0)
      else (⊥ : EReal) := by
  pointwise [k0_pay2]
  have hr := r.isLt
  have hs := s.isLt
  rw [WordCmp.muli_ofNat, WordCmp.addi_ofNat, WordCmp.cmpi_slt_ofNat (by omega) (by omega)]
  by_cases h : r.val * 128 + s.val < 50000
  · rw [if_pos h, decide_eq_true h]
    exact if_pos rfl
  · rw [if_neg h, decide_eq_false h]
    exact if_neg (by decide)

variable (x : FVec Ideal S50000x64 .f32) (v : FVec Ideal S_ .f32) (w1 : FVec Ideal S64x64 .f32) (b1 : FVec Ideal S64 .f32)
  (w2 : FVec Ideal S64x1 .f32) (b2 : FVec Ideal S1 .f32) (g : IVec S50000 32) (u : IVec S_ 32)

/-- The padded node features at a node. -/
theorem padRows_apply (n : Fin 50000) (k : Fin 64) (h : n.val < 50048) :
    Prefix.padRows x v (ix2 (⟨n.val, h⟩ : Fin 50048) k) = x (ix2 n k) := by
  pointwise [Prefix.padRows]

/-- The padded graph numbers at a node. -/
theorem padGraphs_place (n : Fin 50000) :
    k0_pay3 (F := Ideal) (shapeCast S391x128 (Prefix.padGraphs g u) shapeCasts_S50048_S391x128) (place n) = g (ix1 n) := by
  pointwise [k0_pay3, Prefix.padGraphs]
  have e : n.val / 128 * 128 + n.val % 128 = n.val := by omega
  simp only [e, n.isLt, dite_true]

/-- The two sheets the body reads off the padded operands. -/
theorem sheets (hg : ∀ n : Fin 50000, ∃ k : ℕ, k < 64 ∧ g (ix1 n) = BitVec.ofNat 32 k) :
    Sheets (k0_pay2 (Prefix.padRows x v) w1 (shapeCast S1x64 b1 shapeCasts_S64_S1x64) w2 (shapeCast S1x1 b2 shapeCasts_S1_S1x1))
      (k0_pay3 (F := Ideal) (shapeCast S391x128 (Prefix.padGraphs g u) shapeCasts_S50048_S391x128))
      (fun n => Spec.logit (fun k => x (ix2 n k)) w1 b1 w2 b2) (fun n => g (ix1 n)) where
  logit n := by
    rw [pay2_apply]
    have e : n.val / 128 * 128 + n.val % 128 = n.val := by omega
    rw [if_pos (by simp only [e]; exact n.isLt)]
    simp only [e, padRows_apply]
    pointwise [Spec.logit]
  added r s h := by rw [pay2_apply, if_neg (by omega)]
  graph n := padGraphs_place g u n
  below := hg

end Cert.KernelIdeal.Body

end
-- ==== Proof.Region.lean ====
/-
  WHAT THE KERNEL'S REGION LEAVES IN ITS OUTPUT, and what the host operations after it make of that: the grid has one point,
  every block is its whole array, so the array ends at what the body stores over the entering arrays.
-/
module

public import proofs.«01_k».proof.Proof.KernelLogit
public import Idealize.ShloMosaic.Lib.Pipeline.ValueKit

@[expose] public section

set_option maxRecDepth 16384

noncomputable section

namespace Cert.KernelIdeal.Region

open Cert.KernelIdeal Cert.KernelIdeal.Gen Cert.KernelIdeal.Body Cert.Net Idealize.ShloMosaic Idealize.ShloMosaic.TcCoe
open Idealize.SL.Sem Idealize.ShloMosaic.StableHlo Idealize.ShloMosaic.Pipeline

/-- The zero offsets. -/
theorem zeros : (![0, 0] : Fin 2 → ℕ) = fun _ => 0 := by decide

/-- The first 50000 entries of a sheet in row-major order, at a node. -/
theorem cut_apply (x : FVec Ideal S391x128 .f32) (n : Fin 50000) :
    extractStridedSlice S50000 ![0] (shapeCast S50048 x shapeCasts_S391x128_S50048) slices_S50048_S50000_0 (ix1 n)
      = x (place n) := by
  pointwise [place]

section Generic

variable {F : FTy → Type} [FloatOps F] [Named F]

/-- Every window's block index at the one point is zero. -/
theorem index_zero : ∀ (w : Fin cfg0.W) (t : Fin cfg0.N) (a), (cfg0.win w).index t a = 0 := by decide +kernel

theorem block0 (t : Fin cfg0.N) (X : Vec F S50048x64 .f32) : ((cfg0.win 0).blk t).view.read (Elt F) X = X := by
  funext j
  blk_ext [index_zero 0 t]

theorem block1 (t : Fin cfg0.N) (X : Vec F S64x64 .f32) : ((cfg0.win 1).blk t).view.read (Elt F) X = X := by
  funext j
  blk_ext [index_zero 1 t]

theorem block2 (t : Fin cfg0.N) (X : Vec F S1x64 .f32) : ((cfg0.win 2).blk t).view.read (Elt F) X = X := by
  funext j
  blk_ext [index_zero 2 t]

theorem block3 (t : Fin cfg0.N) (X : Vec F S64x1 .f32) : ((cfg0.win 3).blk t).view.read (Elt F) X = X := by
  funext j
  blk_ext [index_zero 3 t]

theorem block4 (t : Fin cfg0.N) (X : Vec F S1x1 .f32) : ((cfg0.win 4).blk t).view.read (Elt F) X = X := by
  funext j
  blk_ext [index_zero 4 t]

theorem block5 (t : Fin cfg0.N) (X : Vec F S391x128 .i32) : ((cfg0.win 5).blk t).view.read (Elt F) X = X := by
  funext j
  blk_ext [index_zero 5 t]

/-- The one point of the grid. -/
def pt : Fin cfg0.N := ⟨0, by decide⟩

variable (m : (ℓ : Loc nD τ sig) → Buf (Elt F) ℓ)

/-- The output array after the region. -/
theorem arr_eq (c : Dev nD) : (dats m 0 c).arrAt 6 cfg0.N = out0_6 (V m c main_v47) (V m c main_arg16) (V m c main_v50) (V m c main_arg18) (V m c main_v51) (V m c main_v49) := by
  refine (dats m 0 c).arrAt_eq_of_after_last 6 pt (by decide +kernel) _ fun j => ?_
  rw [after0_6]
  have h0 : iblk m c 0 pt = V m c main_v47 := block0 pt _
  have h1 : iblk m c 1 pt = V m c main_arg16 := block1 pt _
  have h2 : iblk m c 2 pt = V m c main_v50 := block2 pt _
  have h3 : iblk m c 3 pt = V m c main_arg18 := block3 pt _
  have h4 : iblk m c 4 pt = V m c main_v51 := block4 pt _
  have h5 : iblk m c 5 pt = V m c main_v49 := block5 pt _
  rw [h0, h1, h2, h3, h4, h5]
  generalize out0_6 (V m c main_v47) (V m c main_arg16) (V m c main_v50) (V m c main_arg18) (V m c main_v51)
    (V m c main_v49) = z
  blk_simp

/-- What the two operations after the region leave, of what the region left in its output array. -/
theorem tail_eq (W : Valuation τ sig (Elt F)) : after hostOps1 W (Proc.devRef .tc main_v54)
    = extractStridedSlice S50000 ![0] (shapeCast S50048 (W (Proc.devRef .tc main_v52)) shapeCasts_S391x128_S50048)
      slices_S50048_S50000_0 := by rfl

/-- The program's result, from the arrays the region finds. -/
theorem result_eq (c : Dev nD) : Pipeline.afterTail₀ cfgs (dats m) 0 (V0 m) [hostOps1] c main_v54
    = extractStridedSlice S50000 ![0] (shapeCast S50048 (out0_6 (V m c main_v47) (V m c main_arg16) (V m c main_v50)
      (V m c main_arg18) (V m c main_v51) (V m c main_v49)) shapeCasts_S391x128_S50048) slices_S50048_S50000_0 := by
  unfold Pipeline.afterTail₀
  rw [List.flatten_cons, List.flatten_nil, List.append_nil, tail_eq, ← arr_eq m c]
  have e := Pipeline.withArrays_arr (cfgs 0).spec winFacts0.arr_inj c (V0 m c) (fun w => (dats m 0 c).arrAt w (cfgs 0).N) 6
  rw [← e]

end Generic

variable (m : (ℓ : Loc nD τ sig) → Buf (Elt Ideal) ℓ)

/-- The sheet the body stores, at a node, over any operands: the quotient of the two sweeps. -/
theorem out_place (x0 : Vec Ideal S50048x64 .f32) (x1 : Vec Ideal S64x64 .f32) (x2 : Vec Ideal S1x64 .f32) (x3 : Vec Ideal S64x1 .f32)
    (x4 : Vec Ideal S1x1 .f32) (x5 : Vec Ideal S391x128 .i32) : out0_6 x0 x1 x2 x3 x4 x5 =
    divf (expSheet (k0_pay2 x0 x1 x2 x3 x4) (k0_pay3 (F := Ideal) x5))
      (sumSweep (k0_pay3 (F := Ideal) x5) (expSheet (k0_pay2 x0 x1 x2 x3 x4) (k0_pay3 (F := Ideal) x5)) 64) := by
  have e : k0_pay77 x0 x1 x2 x3 x4 x5 = k0_pay2 x0 x1 x2 x3 x4 := by
    unfold k0_pay77
    rw [View.ld_unit_zero (S := S50048x64) zeros, View.ld_unit_zero (S := S64x64) zeros, View.ld_unit_zero (S := S1x64) zeros,
      View.ld_unit_zero (S := S64x1) zeros, View.ld_unit_zero (S := S1x1) zeros]
  have e' : k0_pay78 x0 x1 x2 x3 x4 x5 = k0_pay3 (F := Ideal) x5 := by
    unfold k0_pay78
    rw [View.ld_unit_zero (S := S391x128) zeros]
  rw [out_eq, View.canon_unit_zero (S := S391x128) zeros, e, e']

/-- The node features the arguments give. -/
def features (c : Dev nD) : FVec Ideal S50000x64 .f32 :=
  nodes (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

/-- A node's graph number, among the arguments. -/
def graph (c : Dev nD) (n : Fin 50000) : BitVec 32 := (m ((c : Thread nD τ).loc main_arg5) : IVec S50000 32) (ix1 n)

/-- A node's logit, of the arguments. -/
def logit (c : Dev nD) (n : Fin 50000) : EReal :=
  Spec.logit (fun k => features m c (ix2 n k)) (m ((c : Thread nD τ).loc main_arg16)) (m ((c : Thread nD τ).loc main_arg17))
    (m ((c : Thread nD τ).loc main_arg18)) (m ((c : Thread nD τ).loc main_arg19))

/-- The program's result at a node: the softmax of the logits of the node features within its graph. -/
theorem value (c : Dev nD) (hg : ∀ n : Fin 50000, ∃ k : ℕ, k < 64 ∧ graph m c n = BitVec.ofNat 32 k) (n : Fin 50000) :
    (Pipeline.afterTail₀ cfgs (dats m) 0 (V0 m) [hostOps1] c main_v54 : FVec Ideal S50000 .f32) (ix1 n) =
      Spec.softmax (logit m c) (graph m c) n := by
  rw [result_eq, V_main_arg16, V_main_arg18, out_place]
  have e0 : V m c main_v47 = _ := Prefix.rows_eq (fun b => m (c, b))
  have e2 : V m c main_v50 = _ := Prefix.bias1_eq (fun b => m (c, b))
  have e4 : V m c main_v51 = _ := Prefix.bias2_eq (fun b => m (c, b))
  have e5 : V m c main_v49 = _ := Prefix.graphs_eq (fun b => m (c, b))
  rw [e0, e2, e4, e5, cut_apply]
  exact stored_place (sheets _ _ _ _ _ _ _ _ hg) n

end Cert.KernelIdeal.Region

end
-- ==== Proof.RefNodes.lean ====
/-
  THE REFERENCE'S LOGITS: its composed terms, read as the network's stages (the same functions of arrays the kernel's
  host operations are read as), and the head's two layers on the node features they end in.
-/
module

public import proofs.«01_k».proof.Proof.Gen.ReferenceIdeal.Run
public import proofs.«01_k».proof.Proof.Net
public import proofs.«01_k».proof.Proof.Spec

@[expose] public section

set_option maxRecDepth 16384

noncomputable section

namespace Cert.ReferenceIdeal.Read

open Cert.ReferenceIdeal Cert.ReferenceIdeal.Gen Cert.ReferenceIdeal.Value Cert.Net Idealize.ShloMosaic
open Idealize.ShloMosaic.TcCoe Idealize.SL.Sem Idealize.ShloMosaic.StableHlo

variable {F : FTy → Type} [FloatOps F]

/-- The head on the node features: a dense layer of 64 units with its positive part, then one output per node. -/
def head (x : FVec F S50000x64 .f32) (w1 : FVec F S64x64 .f32) (b1 : FVec F S64 .f32) (w2 : FVec F S64x1 .f32)
    (b2 : FVec F S1 .f32) : FVec F S50000 .f32 :=
  shapeCast S50000 (addf (Host.dotGeneral dot_S50000x64_S64x1_S50000x1_1_0_0_1_n_n none (nodeRelu (nodeDense x w1 b1)) w2)
    (broadcastInDim S50000x1 ![0, 1] bcast_S1x1_S50000x1_0_1 (broadcastInDim S1x1 ![1] bcast_S1_S1x1_1 b2)))
    shapeCasts_S50000x1_S50000

variable (V : Valuation τ sig (Elt F))

/-- Each node's row of the graph table. -/
theorem table_eq : res_main_v1 V = takeGraph (graphTable (V (Proc.devRef .tc main_arg3)) (V (Proc.devRef .tc main_arg4)))
    (V (Proc.devRef .tc main_arg5)) := by
  rfl

/-- The node features after the input projection. -/
theorem input_eq : res_main_v6 V = nodeRelu (nodeDense (V (Proc.devRef .tc main_arg0)) (V (Proc.devRef .tc main_arg6))
    (V (Proc.devRef .tc main_arg7))) := by
  rfl

/-- The node features after the first block. -/
theorem first_eq : res_main_v28 V = block (res_main_v6 V) (res_main_v1 V) (srcRow (V (Proc.devRef .tc main_arg1)))
    (dstRow (V (Proc.devRef .tc main_arg1))) (V (Proc.devRef .tc main_arg2)) (V (Proc.devRef .tc main_arg8))
    (V (Proc.devRef .tc main_arg9)) (V (Proc.devRef .tc main_arg10)) (V (Proc.devRef .tc main_arg11)) := by
  rfl

/-- The logits, from the node features after the first block. -/
theorem second_eq : res_main_v56 V = head (block (res_main_v28 V) (res_main_v1 V) (srcRow (V (Proc.devRef .tc main_arg1)))
    (dstRow (V (Proc.devRef .tc main_arg1))) (V (Proc.devRef .tc main_arg2)) (V (Proc.devRef .tc main_arg12))
    (V (Proc.devRef .tc main_arg13)) (V (Proc.devRef .tc main_arg14)) (V (Proc.devRef .tc main_arg15)))
    (V (Proc.devRef .tc main_arg16)) (V (Proc.devRef .tc main_arg17)) (V (Proc.devRef .tc main_arg18))
    (V (Proc.devRef .tc main_arg19)) := by
  rfl

/-- The logits, from the arguments. -/
theorem logits_eq : res_main_v56 V = head (nodes (V (Proc.devRef .tc main_arg0)) (V (Proc.devRef .tc main_arg1))
      (V (Proc.devRef .tc main_arg2)) (V (Proc.devRef .tc main_arg3)) (V (Proc.devRef .tc main_arg4))
      (V (Proc.devRef .tc main_arg5)) (V (Proc.devRef .tc main_arg6)) (V (Proc.devRef .tc main_arg7))
      (V (Proc.devRef .tc main_arg8)) (V (Proc.devRef .tc main_arg9)) (V (Proc.devRef .tc main_arg10))
      (V (Proc.devRef .tc main_arg11)) (V (Proc.devRef .tc main_arg12)) (V (Proc.devRef .tc main_arg13))
      (V (Proc.devRef .tc main_arg14)) (V (Proc.devRef .tc main_arg15)))
    (V (Proc.devRef .tc main_arg16)) (V (Proc.devRef .tc main_arg17)) (V (Proc.devRef .tc main_arg18))
    (V (Proc.devRef .tc main_arg19)) := by
  rw [second_eq, first_eq, input_eq, table_eq]
  rfl

/-- The head at a node, over the extended reals. -/
theorem head_apply (x : FVec Ideal S50000x64 .f32) (w1 : FVec Ideal S64x64 .f32) (b1 : FVec Ideal S64 .f32)
    (w2 : FVec Ideal S64x1 .f32) (b2 : FVec Ideal S1 .f32) (n : Fin 50000) :
    head x w1 b1 w2 b2 (ix1 n) = Spec.logit (fun k => x (ix2 n k)) w1 b1 w2 b2 := by
  pointwise [head, nodeRelu, nodeDense, Spec.logit]

end Cert.ReferenceIdeal.Read

end
-- ==== Proof.RefSoftmax.lean ====
/-
  THE REFERENCE'S RESULT AT A NODE, over the extended reals: the maximum over a graph's nodes, the gather of it back to
  the nodes, the exponentials, their sums by graph, and the quotient.
-/
module

public import proofs.«01_k».proof.Proof.RefNodes
public import Idealize.ShloMosaic.Lib.Routing.OpsSearch
public import Idealize.ShloMosaic.Lib.ValueIdxRank1

@[expose] public section

set_option maxRecDepth 16384

noncomputable section

namespace Cert.ReferenceIdeal.Read

open Cert.ReferenceIdeal Cert.ReferenceIdeal.Gen Cert.ReferenceIdeal.Value Cert.Net Idealize.ShloMosaic
open Idealize.ShloMosaic.TcCoe Idealize.SL.Sem Idealize.ShloMosaic.StableHlo

section Generic

variable {F : FTy → Type} [FloatOps F]

/-- Each node's entry of a table of one number per graph, an entry out of range filled. -/
def takeEntry (tbl : FVec F S64 .f32) (ng : IVec S50000 32) : FVec F S50000 .f32 :=
  select (graphOk (wrapGraph ng)) (Host.gather gather_S64_S50000x1_S50000_n_0_n_n_0_1_1 tbl (wrapGraph ng))
    (broadcastInDim S50000 ![] bcast_S_S50000 (constant S_ .f32 0x7FC00000#32))

/-- Each graph's largest logit. -/
def maxima (l : FVec F S50000 .f32) (ng : IVec S50000 32) : FVec F S64 .f32 :=
  Host.reduce FloatOps.maximumf
    (select (cmpi .eq (broadcastInDim S50000x64 ![0, 1] bcast_S50000x1_S50000x64_0_1
          (broadcastInDim S50000x1 ![0] bcast_S50000_S50000x1_0 ng))
        (broadcastInDim S50000x64 ![0, 1] bcast_S1x64_S50000x64_0_1
          (broadcastInDim S1x64 ![1] bcast_S64_S1x64_1 (iotaInDim S64 32 0))))
      (broadcastInDim S50000x64 ![0, 1] bcast_S50000x1_S50000x64_0_1
        (broadcastInDim S50000x1 ![0] bcast_S50000_S50000x1_0 l))
      (broadcastInDim S50000x64 ![] bcast_S_S50000x64 (constant S_ .f32 0xFF800000#32)))
    (constant S_ .f32 0xFF800000#32) reducesTo_S50000x64_S64_d0 h_S_

/-- The exponentials, each of a logit less its graph's largest. -/
def exps (l : FVec F S50000 .f32) (ng : IVec S50000 32) : FVec F S50000 .f32 :=
  Host.exp (subf l (takeEntry (maxima l ng) ng))

/-- Each graph's sum. -/
def sums (z : FVec F S50000 .f32) (ng : IVec S50000 32) : FVec F S64 .f32 :=
  Host.scatterAdd scatter_S64_S50000x1_S50000_n_0_0_1 (broadcastInDim S64 ![] bcast_S_S64 (constant S_ .f32 0x00000000#32))
    (broadcastInDim S50000x1 ![0] bcast_S50000_S50000x1_0 ng) z

variable (V : Valuation τ sig (Elt F))

/-- The reference's exponentials. -/
theorem exps_eq : res_main_v68 V = exps (res_main_v56 V) (V (Proc.devRef .tc main_arg5)) := by
  rfl

/-- The reference's result. -/
theorem result_eq : val2 V (Proc.devRef .tc main_v73) = Host.divf (exps (res_main_v56 V) (V (Proc.devRef .tc main_arg5)))
    (takeEntry (sums (exps (res_main_v56 V) (V (Proc.devRef .tc main_arg5))) (V (Proc.devRef .tc main_arg5)))
      (V (Proc.devRef .tc main_arg5))) := by
  rw [← exps_eq]
  exact (val2_main_v73 V).trans rfl

end Generic

variable {ng : IVec S50000 32} {n : Fin 50000} {g : ℕ}

/-- A graph number in range is its own start index. -/
theorem wrapGraph_apply (hg : g < 64) (h : ng (ix1 n) = BitVec.ofNat 32 g) :
    wrapGraph ng (ix2 n (0 : Fin 1)) = BitVec.ofNat 32 g := by
  pointwise [wrapGraph]
  rw [h]
  refine if_neg ?_
  rw [WordCmp.cmpi_slt_ofNat (w := 32) (b := 0) (by omega) (by omega), decide_eq_false (Nat.not_lt_zero g)]
  decide

/-- A graph number in range passes the range test. -/
theorem graphOk_apply (hg : g < 64) (h : ng (ix1 n) = BitVec.ofNat 32 g) : graphOk (wrapGraph ng) (ix1 n) = 1#1 := by
  have e := wrapGraph_apply hg h
  pointwise [graphOk]
  rw [Finset.univ_unique, Finset.fold_singleton]
  show IntOp.andi (IntOp.andi (IntOp.cmpi .sge (wrapGraph ng (ix2 n (0 : Fin 1))) (BitVec.ofNat 32 0))
    (IntOp.cmpi .sle (wrapGraph ng (ix2 n (0 : Fin 1))) (BitVec.ofNat 32 63))) 1#1 = 1#1
  rw [e, WordCmp.cmpi_sge_ofNat (w := 32) (by omega) (by omega), WordCmp.cmpi_sle_ofNat (w := 32) (by omega) (by omega),
    decide_eq_true (Nat.zero_le g), decide_eq_true (show g ≤ 63 by omega)]
  decide

/-- A node's entry of a table, its graph number being in range. -/
theorem takeEntry_apply (tbl : FVec Ideal S64 .f32) (hg : g < 64) (h : ng (ix1 n) = BitVec.ofNat 32 g) :
    takeEntry tbl ng (ix1 n) = tbl (ix1 (⟨g, hg⟩ : Fin 64)) := by
  have e1 := graphOk_apply hg h
  have e2 := Routing.take_ap gather_S64_S50000x1_S50000_n_0_n_n_0_1_1 rfl rfl rfl rfl tbl (wrapGraph ng) n hg (by omega)
    (wrapGraph_apply hg h)
  unfold takeEntry
  refine Eq.trans ?_ e2
  show Scalar.select (graphOk (wrapGraph ng) (ix1 n)) _ _ = _
  rw [e1]
  exact if_pos rfl

/-- A graph's largest logit. -/
theorem maxima_apply (l : FVec Ideal S50000 .f32) (ng : IVec S50000 32) (g : ℕ) (hg : g < 64) :
    maxima l ng (ix1 (⟨g, hg⟩ : Fin 64)) =
      Spec.graphMax (fun n => l (ix1 n)) (fun n => ng (ix1 n)) (BitVec.ofNat 32 g) := by
  pointwise [maxima]
  have hb : Ideal.ofBits .f32 0xFF800000#32 = ⊥ := by simp [Ideal.ofBits, Ideal.ieee]
  rw [hb]
  refine eq_of_forall_ge_iff fun b => ?_
  rw [Finset.fold_max_le, Spec.graphMax_le]
  refine (and_iff_right bot_le).trans (forall_congr' fun n => ?_)
  refine (imp_iff_right (Finset.mem_univ n)).trans ?_
  by_cases h : ng (ix1 n) = BitVec.ofNat 32 g
  · rw [h]
    simp [Scalar.select, IntOp.cmpi]
  · have hc : IntOp.cmpi .eq (ng (ix1 n)) (BitVec.ofNat 32 g) = 0#1 := by
      show BitVec.ofBool (ng (ix1 n) == BitVec.ofNat 32 g) = 0#1
      rw [beq_false_of_ne h]
      rfl
    rw [hc]
    exact iff_of_true ((if_neg (by decide)).trans_le bot_le) fun e => absurd e h

/-- Where an update of the sums lands: at its graph number. -/
theorem lands (ix : IVec S50000x1 32) (n : Fin 50000) (v : Fin 64) :
    scatter_S64_S50000x1_S50000_n_0_0_1.resultIdx? (ix1 n) ix = some (ix1 v) ↔
      ix (ix2 n (0 : Fin 1)) = BitVec.ofNat 32 v.val := by
  have hs : scatter_S64_S50000x1_S50000_n_0_0_1.start (ix1 n) ix 0 = (ix (ix2 n (0 : Fin 1))).toInt := by
    unfold ScatterDims.start
    rw [dif_pos (by decide)]
    congr 2
    funext b
    match b with
    | ⟨0, _⟩ => rfl
    | ⟨1, _⟩ => rfl
  have hw : scatter_S64_S50000x1_S50000_n_0_0_1.window (ix1 n) 0 = 0 := by
    unfold ScatterDims.window
    exact dif_neg (by decide)
  have hv := v.isLt
  have ht : (ix (ix2 n (0 : Fin 1))).toInt = v.val ↔ ix (ix2 n (0 : Fin 1)) = BitVec.ofNat 32 v.val := by
    have e : (BitVec.ofNat 32 v.val).toInt = v.val := by
      rw [BitVec.toInt_eq_toNat_of_lt] <;> rw [BitVec.toNat_ofNat] <;> omega
    rw [← BitVec.toInt_inj, e]
  rw [← ht]
  unfold ScatterDims.resultIdx?
  split_ifs with h
  · have h0 := h 0
    rw [hs, hw] at h0
    rw [Option.some_inj]
    constructor
    · intro e
      have e0 := congrArg Fin.val (congrFun e 0)
      simp only [hs, hw] at e0
      change _ = v.val at e0
      omega
    · intro e
      funext a
      obtain rfl : a = 0 := Subsingleton.elim _ _
      refine Fin.ext ?_
      simp only [hs, hw]
      show _ = v.val
      omega
  · refine iff_of_false (by simp) fun e => h fun a => ?_
    obtain rfl : a = 0 := Subsingleton.elim _ _
    rw [hs, hw, e]
    refine ⟨by omega, ?_⟩
    show (v.val : ℤ) + (0 : ℕ) < (64 : ℕ)
    omega

/-- A graph's sum. -/
theorem sums_apply (z : FVec Ideal S50000 .f32) (ng : IVec S50000 32) (g : ℕ) (hg : g < 64) :
    sums z ng (ix1 (⟨g, hg⟩ : Fin 64)) = ∑ n : Fin 50000, if ng (ix1 n) = BitVec.ofNat 32 g then z (ix1 n) else (0 : EReal) := by
  have e : sums z ng (ix1 (⟨g, hg⟩ : Fin 64)) = Ideal.ofBits .f32 0#32 +
      ∑ j ∈ Finset.univ.filter (fun j : S50000.Idx => scatter_S64_S50000x1_S50000_n_0_0_1.resultIdx? j
        (broadcastInDim S50000x1 ![0] bcast_S50000_S50000x1_0 ng) = some (ix1 (⟨g, hg⟩ : Fin 64))), z j := rfl
  rw [e, Ideal.ofBits_zero .f32, zero_add, Finset.sum_filter]
  refine (Fintype.sum_equiv (ValueIdx.idxEquiv1 (n := 50000)).symm _ _ fun n => ?_).symm
  show (if ng (ix1 n) = BitVec.ofNat 32 g then z (ix1 n) else (0 : EReal)) =
    if scatter_S64_S50000x1_S50000_n_0_0_1.resultIdx? (ix1 n)
      (broadcastInDim S50000x1 ![0] bcast_S50000_S50000x1_0 ng) = some (ix1 (⟨g, hg⟩ : Fin 64)) then z (ix1 n) else 0
  refine if_congr ?_ rfl rfl
  rw [lands]
  have hb : broadcastInDim S50000x1 ![0] bcast_S50000_S50000x1_0 ng (ix2 n (0 : Fin 1)) = ng (ix1 n) := by
    pointwise
  rw [hb]

variable (ng) (hr : ∀ n : Fin 50000, ∃ k, k < 64 ∧ ng (ix1 n) = BitVec.ofNat 32 k)

include hr

/-- A node's exponential. -/
theorem exps_apply (l : FVec Ideal S50000 .f32) (n : Fin 50000) :
    exps l ng (ix1 n) = Spec.expo (fun n => l (ix1 n)) (fun n => ng (ix1 n)) n := by
  obtain ⟨k, hk, h⟩ := hr n
  show Ideal.exp (l (ix1 n) - takeEntry (maxima l ng) ng (ix1 n)) = _
  rw [takeEntry_apply _ hk h, maxima_apply l ng k hk, ← h]
  rfl

omit hr in
/-- A quotient at an index. -/
theorem divf_at (a b : FVec Ideal S50000 .f32) (i : S50000.Idx) : Host.divf a b i = Ideal.div (a i) (b i) := rfl

/-- The quotient at a node is the softmax of the logits within its graph. -/
theorem quotient_apply (l : FVec Ideal S50000 .f32) (n : Fin 50000) :
    Host.divf (exps l ng) (takeEntry (sums (exps l ng) ng) ng) (ix1 n) =
      Spec.softmax (fun n => l (ix1 n)) (fun n => ng (ix1 n)) n := by
  obtain ⟨k, hk, h⟩ := hr n
  rw [divf_at, takeEntry_apply _ hk h, sums_apply _ ng k hk, ← h]
  rw [exps_apply ng hr]
  refine congrArg (Ideal.div _) (Finset.sum_congr rfl fun j _ => ?_)
  rw [exps_apply ng hr]

end Cert.ReferenceIdeal.Read

end
-- ==== Proof.RefValue.lean ====
/-
  THE REFERENCE'S RESULT, from its arguments: the softmax of the logits of the node features within each graph.
-/
module

public import proofs.«01_k».proof.Proof.RefSoftmax

@[expose] public section

set_option maxRecDepth 16384

noncomputable section

namespace Cert.ReferenceIdeal.Read

open Cert.ReferenceIdeal Cert.ReferenceIdeal.Gen Cert.ReferenceIdeal.Value Cert.Net Idealize.ShloMosaic
open Idealize.ShloMosaic.TcCoe Idealize.SL.Sem Idealize.ShloMosaic.StableHlo

variable (V : Valuation τ sig (Elt Ideal))

/-- The node features the arguments give. -/
def features : FVec Ideal S50000x64 .f32 :=
  nodes (F := Ideal)
    (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9)) (V (Proc.devRef .tc main_arg10)) (V (Proc.devRef .tc main_arg11))
    (V (Proc.devRef .tc main_arg12)) (V (Proc.devRef .tc main_arg13)) (V (Proc.devRef .tc main_arg14))
    (V (Proc.devRef .tc main_arg15))

/-- A node's graph number, among the arguments. -/
def graph (n : Fin 50000) : BitVec 32 := (V (Proc.devRef .tc main_arg5) : IVec S50000 32) (ix1 n)

/-- A node's logit, of the arguments. -/
def logit (n : Fin 50000) : EReal :=
  Spec.logit (fun k => features V (ix2 n k)) (V (Proc.devRef .tc main_arg16)) (V (Proc.devRef .tc main_arg17))
    (V (Proc.devRef .tc main_arg18)) (V (Proc.devRef .tc main_arg19))

/-- The reference's result at a node. -/
theorem value (hg : ∀ n : Fin 50000, ∃ k : ℕ, k < 64 ∧ graph V n = BitVec.ofNat 32 k) (n : Fin 50000) :
    (val2 V (Proc.devRef .tc main_v73) : FVec Ideal S50000 .f32) (ix1 n) = Spec.softmax (logit V) (graph V) n := by
  rw [result_eq, quotient_apply _ hg, logits_eq]
  simp only [head_apply]
  rfl

end Cert.ReferenceIdeal.Read

end
-- ==== Proof.Claims.lean ====
/-
  THE CLAIMS: each program runs and leaves its arguments and every counter as they were, the mask constant's two readings
  agree with the table, and the two idealized programs end with equal results.
-/
module

public import proofs.«01_k».proof.Defs
public import proofs.«01_k».proof.Proof.Gen.Kernel
public import proofs.«01_k».proof.Proof.Gen.Kernel.Frame
public import proofs.«01_k».proof.Proof.Region
public import proofs.«01_k».proof.Proof.RefValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The precondition's side condition. -/
theorem pre_facts : Cert.Pre_in_graphs.Facts := ⟨by decide⟩

/-- A word that is at least 0 and less than 64 as a signed number is one of the first 64 numbers. -/
theorem word_below {w : BitVec 32} (h : IntOp.andi (IntOp.cmpi .sge w 0#32) (IntOp.cmpi .slt w 64#32) = 1#1) :
    ∃ k : ℕ, k < 64 ∧ w = BitVec.ofNat 32 k := by
  have both : ∀ a b : Bool, IntOp.andi (BitVec.ofBool a) (BitVec.ofBool b) = 1#1 → a = true ∧ b = true := by decide
  obtain ⟨h0, h1⟩ := both _ _ h
  have h0 : (0 : ℤ) ≤ w.toInt := of_decide_eq_true h0
  have h1 : w.toInt < 64 := of_decide_eq_true h1
  have e := BitVec.toInt_eq_toNat_cond w
  refine ⟨w.toNat, ?_, (BitVec.ofNat_toNat 32 w).trans (BitVec.setWidth_eq w) |>.symm⟩
  have := w.isLt
  split_ifs at e <;> omega

/-- The precondition says that every node's graph number is one of the 64. -/
theorem graphs_below (m : (ℓ : Loc Cert.KernelIdeal.nD Cert.KernelIdeal.τ Cert.KernelIdeal.sig) → Buf (Elt Ideal) ℓ)
    (h : Cert.Pre_KernelIdeal_in_graphs (hPre_in_graphs := pre_facts) m) (c : Dev Cert.KernelIdeal.nD) (n : Fin 50000) :
    ∃ k : ℕ, k < 64 ∧ Cert.KernelIdeal.Region.graph m c n = BitVec.ofNat 32 k := by
  have e := congrFun (h c) (ix1 n)
  unfold Cert.KernelIdeal.Region.graph
  generalize m ((c.tc : Thread Cert.KernelIdeal.nD Cert.KernelIdeal.τ).loc Cert.KernelIdeal.main_arg5) = x at e ⊢
  change IntOp.andi (IntOp.cmpi .sge ((x : IVec Cert.KernelIdeal.S50000 32) (ix1 n)) 0#32)
    (IntOp.cmpi .slt ((x : IVec Cert.KernelIdeal.S50000 32) (ix1 n)) 64#32) = 1#1 at e
  exact word_below e

/-- The kernel as printed: its frame. -/
theorem kernel_frame : Cert.quiescent_Kernel (hKernel := Cert.Kernel.Gen.facts) :=
  fun m g _ => Cert.Kernel.Gen.frame m g

/-- The idealized kernel: its frame. -/
theorem ideal_frame : Cert.quiescent_KernelIdeal (hKernelIdeal := Cert.KernelIdeal.Gen.facts) :=
  fun m g _ => Cert.KernelIdeal.Gen.frame m g

/-- The reference: its frame. It has no semaphore. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The mask constant: the table gives its name the value written for it. -/
theorem preserves : Cert.preserves_Kernel_KernelIdeal :=
  IdealRules.named_const.statement Cert.KernelIdeal.κ "mask" .f32 0xF149F2CA#32 ⊥ rfl

/-- From memories that agree on the arguments, the reference's result array is the kernel's: both hold the softmax of the
    same logits within the same graphs. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hg : ∀ n : Fin 50000, ∃ k : ℕ, k < 64 ∧ Cert.KernelIdeal.Region.graph m c n = BitVec.ofNat 32 k)
    (h :
      m' ((c.tc : Thread Cert.ReferenceIdeal.nD Cert.ReferenceIdeal.τ).loc Cert.ReferenceIdeal.main_arg0) =
        m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) =
        m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) =
        m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) =
        m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) =
        m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) =
        m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) =
        m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) =
        m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) =
        m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) =
        m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) =
        m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) =
        m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) =
        m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) =
        m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) =
        m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) =
        m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) =
        m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) =
        m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) =
        m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) =
        m ((c.tc : Thread Cert.KernelIdeal.nD Cert.KernelIdeal.τ).loc Cert.KernelIdeal.main_arg19)) :
    Cert.ReferenceIdeal.Value.val2 (StableHlo.launchContents m' c) (Proc.devRef .tc Cert.ReferenceIdeal.main_v73) =
      Pipeline.afterTail₀ Cert.KernelIdeal.cfgs (Cert.KernelIdeal.Gen.dats m) 0 (Cert.KernelIdeal.Gen.V0 m)
        [Cert.KernelIdeal.Gen.hostOps1] c Cert.KernelIdeal.main_v54 := by
  obtain ⟨h0, h1, h2, h3, h4, h5, h6, h7, h8, h9, h10, h11, h12, h13, h14, h15, h16, h17, h18, h19⟩ := h
  have eg : Cert.ReferenceIdeal.Read.graph (StableHlo.launchContents m' c) = Cert.KernelIdeal.Region.graph m c :=
    funext fun n => congrFun h5 (ix1 n)
  have ef : Cert.ReferenceIdeal.Read.features (StableHlo.launchContents m' c) = Cert.KernelIdeal.Region.features m c := by
    unfold Cert.ReferenceIdeal.Read.features Cert.KernelIdeal.Region.features
    rw [← h0, ← h1, ← h2, ← h3, ← h4, ← h5, ← h6, ← h7, ← h8, ← h9, ← h10, ← h11, ← h12, ← h13, ← h14, ← h15]
  have el : Cert.ReferenceIdeal.Read.logit (StableHlo.launchContents m' c) = Cert.KernelIdeal.Region.logit m c := by
    funext n
    unfold Cert.ReferenceIdeal.Read.logit Cert.KernelIdeal.Region.logit
    rw [ef, ← h16, ← h17, ← h18, ← h19]
  funext i
  obtain ⟨n, rfl⟩ : ∃ n : Fin 50000, i = ix1 n := ⟨i 0, ValueIdx.eq_ix1 i⟩
  refine (Cert.ReferenceIdeal.Read.value _ (by rw [eg]; exact hg) n).trans ?_
  rw [eg, el]
  exact (Cert.KernelIdeal.Region.value m c hg n).symm

/-- The two idealized programs end with equal results. -/
theorem algebraic : Cert.algebraic_KernelIdeal_ReferenceIdeal_pre_in_graphs (hKernelIdeal := Cert.KernelIdeal.Gen.facts)
    (hReferenceIdeal := Cert.ReferenceIdeal.Gen.facts) (hPre_in_graphs := pre_facts) := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v54, ?_, ?_⟩
  · exact (θ_run _ _ _).mono (fun r h c => ⟨(h.1 c).2 Cert.KernelIdeal.main_v54
      (Pipeline.mem_restRefs_of Cert.KernelIdeal.main_v54 (by decide) (by decide)), h.2 c⟩)
      (θ_run_and (Cert.KernelIdeal.Gen.run_main m g) (Cert.KernelIdeal.Gen.unchanged m g))
  · refine (θ_run _ _ _).mono (fun r h c => ⟨(h c).1.trans ?_, (h c).2⟩) (Cert.ReferenceIdeal.Value.run m' g')
    exact (Cert.ReferenceIdeal.Value.val2_main_v73 (StableHlo.launchContents m' c)).symm.trans
      (results_eq m m' c (graphs_below m hpre c) (hagree c))

end Cert.Proof

end
-- ==== Proof.lean ====
/-
  THE CERTIFICATE: the side conditions' witnesses, then the seven claims in order (Proof/Claims.lean).
-/
module

public import proofs.«01_k».proof.Defs
public import proofs.«01_k».proof.Proof.Claims
public import Idealize.ShloMosaic.Adequacy
public import Idealize.ShloMosaic.Init

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts, pre_facts,
    kernel_frame, ideal_frame, fun m g _ => Cert.KernelIdeal.Gen.frame m g,
    reference_frame, fun m g _ => reference_frame m g trivial, preserves, algebraic⟩

end Cert.Proof

end
